-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S50000x512 : Shape := ⟨2, ![50000, 512]⟩
abbrev S50000 : Shape := ⟨1, ![50000]⟩
abbrev S512x1536 : Shape := ⟨2, ![512, 1536]⟩
abbrev S1536 : Shape := ⟨1, ![1536]⟩
abbrev S1536x1024 : Shape := ⟨2, ![1536, 1024]⟩
abbrev S1024 : Shape := ⟨1, ![1024]⟩
abbrev S1024x128 : Shape := ⟨2, ![1024, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x1536 : S_.BroadcastsInDim S512x1536 (![] : Fin 0 → Fin S512x1536.rank)
  reducesTo_S512x1536_S_d0_1 : S512x1536.ReducesTo [0, 1] S_
  bcast_S_S1536 : S_.BroadcastsInDim S1536 (![] : Fin 0 → Fin S1536.rank)
  reducesTo_S1536_S_d0 : S1536.ReducesTo [0] S_
  bcast_S_S1536x1024 : S_.BroadcastsInDim S1536x1024 (![] : Fin 0 → Fin S1536x1024.rank)
  reducesTo_S1536x1024_S_d0_1 : S1536x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg8 : FVec F S1024 .f32) (main_v33 : IVec S_ 1) : IVec S_ 1 :=
  let main_v34 : FVec F S1024 .f32 := Host.absf main_arg8
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg5 : FVec F S1536 .f32) (main_arg6 : FVec F S1536x1024 .f32) (main_arg7 : FVec F S1024 .f32) (main_arg8 : FVec F S1024 .f32) (main_v13 : IVec S_ 1) (main_v16 : IVec S1536 1) : IVec S_ 1 :=
  let main_c_5 : IVec S_ 1 := constantI S_ 1 1#1
  let main_v17 : IVec S_ 1 := (fun x v => Host.reduce IntOp.andi x v reducesTo_S1536_S_d0 h_S_) main_v16 main_c_5
  let main_v18 : IVec S_ 1 := andi main_v13 main_v17
  let main_v19 : FVec F S1536 .f32 := Host.absf main_arg5
  let main_cst_6 : FVec F S_ .f32 := constant S_ .f32 0x7F800000#32
  let main_v20 : FVec F S1536 .f32 := broadcastInDim S1536 ![] bcast_S_S1536 main_cst_6
  let main_v21 : IVec S1536 1 := cmpf .olt main_v19 main_v20
  let main_c_7 : IVec S_ 1 := constantI S_ 1 1#1
  let main_v22 : IVec S_ 1 := (fun x v => Host.reduce IntOp.andi x v reducesTo_S1536_S_d0 h_S_) main_v21 main_c_7
  let main_v23 : IVec S_ 1 := andi main_v18 main_v22
  let main_v24 : FVec F S1536x1024 .f32 := Host.absf main_arg6
  let main_cst_8 : FVec F S_ .f32 := constant S_ .f32 0x7F800000#32
  let main_v25 : FVec F S1536x1024 .f32 := broadcastInDim S1536x1024 ![] bcast_S_S1536x1024 main_cst_8
  let main_v26 : IVec S1536x1024 1 := cmpf .olt main_v24 main_v25
  let main_c_9 : IVec S_ 1 := constantI S_ 1 1#1
  let main_v27 : IVec S_ 1 := (fun x v => Host.reduce IntOp.andi x v reducesTo_S1536x1024_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg8 main_v33

def fn {F : FTy → Type} [FloatOps F] (main_arg0 : FVec F S50000x512 .f32) (main_arg1 : IVec S50000 32) (main_arg2 : FVec F S512x1536 .f32) (main_arg3 : FVec F S1536 .f32) (main_arg4 : FVec F S1536 .f32) (main_arg5 : FVec F S1536 .f32) (main_arg6 : FVec F S1536x1024 .f32) (main_arg7 : FVec F S1024 .f32) (main_arg8 : FVec F S1024 .f32) (main_arg9 : FVec F S1024 .f32) (main_arg10 : FVec F S1024x128 .f32) (main_arg11 : FVec F S128 .f32) (main_arg12 : FVec F S128x128 .f32) (main_arg13 : FVec F S128 .f32) (main_arg14 : FVec F S128x128 .f32) (main_arg15 : FVec F S128 .f32) (main_arg16 : FVec F S128x1 .f32) (main_arg17 : FVec F S1 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x1536 .f32 := Host.absf main_arg2
  let main_cst_0 : FVec F S_ .f32 := constant S_ .f32 0x7F800000#32
  let main_v5 : FVec F S512x1536 .f32 := broadcastInDim S512x1536 ![] bcast_S_S512x1536 main_cst_0
  let main_v6 : IVec S512x1536 1 := cmpf .olt main_v4 main_v5
  let main_c_1 : IVec S_ 1 := constantI S_ 1 1#1
  let main_v7 : IVec S_ 1 := (fun x v => Host.reduce IntOp.andi x v reducesTo_S512x1536_S_d0_1 h_S_) main_v6 main_c_1
  let main_v8 : IVec S_ 1 := andi main_v3 main_v7
  let main_v9 : FVec F S1536 .f32 := Host.absf main_arg3
  let main_cst_2 : FVec F S_ .f32 := constant S_ .f32 0x7F800000#32
  let main_v10 : FVec F S1536 .f32 := broadcastInDim S1536 ![] bcast_S_S1536 main_cst_2
  let main_v11 : IVec S1536 1 := cmpf .olt main_v9 main_v10
  let main_c_3 : IVec S_ 1 := constantI S_ 1 1#1
  let main_v12 : IVec S_ 1 := (fun x v => Host.reduce IntOp.andi x v reducesTo_S1536_S_d0 h_S_) main_v11 main_c_3
  let main_v13 : IVec S_ 1 := andi main_v8 main_v12
  let main_v14 : FVec F S1536 .f32 := Host.absf main_arg4
  let main_cst_4 : FVec F S_ .f32 := constant S_ .f32 0x7F800000#32
  let main_v15 : FVec F S1536 .f32 := broadcastInDim S1536 ![] bcast_S_S1536 main_cst_4
  let main_v16 : IVec S1536 1 := cmpf .olt main_v14 main_v15
  fn_part1 (F := F) main_arg5 main_arg6 main_arg7 main_arg8 main_v13 main_v16
-- ==== Kernel.lean ====
abbrev S50000x512 : Shape := ⟨2, ![50000, 512]⟩
abbrev S50000 : Shape := ⟨1, ![50000]⟩
abbrev S512x1536 : Shape := ⟨2, ![512, 1536]⟩
abbrev S1536 : Shape := ⟨1, ![1536]⟩
abbrev S1536x1024 : Shape := ⟨2, ![1536, 1024]⟩
abbrev S1024 : Shape := ⟨1, ![1024]⟩
abbrev S1024x128 : Shape := ⟨2, ![1024, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S512x512 : Shape := ⟨2, ![512, 512]⟩
abbrev S1x512 : Shape := ⟨2, ![1, 512]⟩
abbrev S1000x512 : Shape := ⟨2, ![1000, 512]⟩
abbrev S512 : Shape := ⟨1, ![512]⟩
abbrev S1x1536 : Shape := ⟨2, ![1, 1536]⟩
abbrev S1x1024 : Shape := ⟨2, ![1, 1024]⟩
abbrev S50000x1024 : Shape := ⟨2, ![50000, 1024]⟩
abbrev S1000x1024 : Shape := ⟨2, ![1000, 1024]⟩
abbrev S1000x1536 : Shape := ⟨2, ![1000, 1536]⟩
abbrev S1x128 : Shape := ⟨2, ![1, 128]⟩
abbrev S1x1 : Shape := ⟨2, ![1, 1]⟩
abbrev S50000x640 : Shape := ⟨2, ![50000, 640]⟩
abbrev S1000x640 : Shape := ⟨2, ![1000, 640]⟩
abbrev S1000x128 : Shape := ⟨2, ![1000, 128]⟩
abbrev S1000 : Shape := ⟨1, ![1000]⟩
abbrev S1000x1 : Shape := ⟨2, ![1000, 1]⟩
abbrev S50000x1 : Shape := ⟨2, ![50000, 1]⟩
abbrev S2048x640 : Shape := ⟨2, ![2048, 640]⟩
abbrev S1000x2048 : Shape := ⟨2, ![1000, 2048]⟩
abbrev S2048x512 : Shape := ⟨2, ![2048, 512]⟩
abbrev S2048x1 : Shape := ⟨2, ![2048, 1]⟩

abbrev nBuf : Space → Nat
  | .hbm => 45
  | .vmem => 47
  | .smem => 0
  | _ => 0

abbrev bufTy : (tb : Table) → Fin (tcTables nBuf tb) → BufTy
  | .hbm, ⟨0, _⟩ => ⟨S50000x512, .f32⟩
  | .hbm, ⟨1, _⟩ => ⟨S50000, .i32⟩
  | .hbm, ⟨2, _⟩ => ⟨S512x1536, .f32⟩
  | .hbm, ⟨3, _⟩ => ⟨S1536, .f32⟩
  | .hbm, ⟨4, _⟩ => ⟨S1536, .f32⟩
  | .hbm, ⟨5, _⟩ => ⟨S1536, .f32⟩
  | .hbm, ⟨6, _⟩ => ⟨S1536x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x1, .f32⟩
  | .hbm, ⟨17, _⟩ => ⟨S1, .f32⟩
  | .hbm, ⟨18, _⟩ => ⟨S512x512, .f32⟩
  | .hbm, ⟨19, _⟩ => ⟨S1x512, .f32⟩
  | .hbm, ⟨20, _⟩ => ⟨S1x1536, .f32⟩
  | .hbm, ⟨21, _⟩ => ⟨S1x1536, .f32⟩
  | .hbm, ⟨22, _⟩ => ⟨S1x1536, .f32⟩
  | .hbm, ⟨23, _⟩ => ⟨S512x1536, .bf16⟩
  | .hbm, ⟨24, _⟩ => ⟨S1x1536, .f32⟩
  | .hbm, ⟨25, _⟩ => ⟨S1536x1024, .bf16⟩
  | .hbm, ⟨26, _⟩ => ⟨S1x1024, .f32⟩
  | .hbm, ⟨27, _⟩ => ⟨S50000x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1024x128, .bf16⟩
  | .hbm, ⟨33, _⟩ => ⟨S1x128, .f32⟩
  | .hbm, ⟨34, _⟩ => ⟨S128x128, .bf16⟩
  | .hbm, ⟨35, _⟩ => ⟨S1x128, .f32⟩
  | .hbm, ⟨36, _⟩ => ⟨S128x128, .bf16⟩
  | .hbm, ⟨37, _⟩ => ⟨S1x128, .f32⟩
  | .hbm, ⟨38, _⟩ => ⟨S1x128, .f32⟩
  | .hbm, ⟨39, _⟩ => ⟨S1x1, .f32⟩
  | .hbm, ⟨40, _⟩ => ⟨S50000x640, .f32⟩
  | .hbm, ⟨41, _⟩ => ⟨S50000, .f32⟩
  | .hbm, ⟨42, _⟩ => ⟨S50000x1, .f32⟩
  | .hbm, ⟨43, _⟩ => ⟨S2048x640, .f32⟩
  | .hbm, ⟨44, _⟩ => ⟨S2048x512, .f32⟩
  | .local _ .vmem, ⟨0, _⟩ => ⟨S1000x512, .f32⟩
  | .local _ .vmem, ⟨1, _⟩ => ⟨S1000x512, .f32⟩
  | .local _ .vmem, ⟨2, _⟩ => ⟨S512x512, .f32⟩
  | .local _ .vmem, ⟨3, _⟩ => ⟨S1x512, .f32⟩
  | .local _ .vmem, ⟨4, _⟩ => ⟨S512x512, .f32⟩
  | .local _ .vmem, ⟨5, _⟩ => ⟨S1x512, .f32⟩
  | .local _ .vmem, ⟨6, _⟩ => ⟨S512x1536, .f32⟩
  | .local _ .vmem, ⟨7, _⟩ => ⟨S1x1536, .f32⟩
  | .local _ .vmem, ⟨8, _⟩ => ⟨S1x1536, .f32⟩
  | .local _ .vmem, ⟨9, _⟩ => ⟨S1x1536, .f32⟩
  | .local _ .vmem, ⟨10, _⟩ => ⟨S512x1536, .bf16⟩
  | .local _ .vmem, ⟨11, _⟩ => ⟨S1x1536, .f32⟩
  | .local _ .vmem, ⟨12, _⟩ => ⟨S1000x512, .f32⟩
  | .local _ .vmem, ⟨13, _⟩ => ⟨S1000x512, .f32⟩
  | .local _ .vmem, ⟨14, _⟩ => ⟨S512x1536, .bf16⟩
  | .local _ .vmem, ⟨15, _⟩ => ⟨S1x1536, .f32⟩
  | .local _ .vmem, ⟨16, _⟩ => ⟨S1536x1024, .bf16⟩
  | .local _ .vmem, ⟨17, _⟩ => ⟨S1x1024, .f32⟩
  | .local _ .vmem, ⟨18, _⟩ => ⟨S1000x1024, .f32⟩
  | .local _ .vmem, ⟨19, _⟩ => ⟨S1000x1024, .f32⟩
  | .local _ .vmem, ⟨20, _⟩ => ⟨S1x1024, .f32⟩
  | .local _ .vmem, ⟨21, _⟩ => ⟨S1x1024, .f32⟩
  | .local _ .vmem, ⟨22, _⟩ => ⟨S1000x1024, .f32⟩
  | .local _ .vmem, ⟨23, _⟩ => ⟨S1000x1024, .f32⟩
  | .local _ .vmem, ⟨24, _⟩ => ⟨S1000x512, .f32⟩
  | .local _ .vmem, ⟨25, _⟩ => ⟨S1000x512, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S1x1024, .f32⟩
  | .local _ .vmem, ⟨30, _⟩ => ⟨S1024x128, .bf16⟩
  | .local _ .vmem, ⟨31, _⟩ => ⟨S1x128, .f32⟩
  | .local _ .vmem, ⟨32, _⟩ => ⟨S128x128, .bf16⟩
  | .local _ .vmem, ⟨33, _⟩ => ⟨S1x128, .f32⟩
  | .local _ .vmem, ⟨34, _⟩ => ⟨S128x128, .bf16⟩
  | .local _ .vmem, ⟨35, _⟩ => ⟨S1x128, .f32⟩
  | .local _ .vmem, ⟨36, _⟩ => ⟨S1x128, .f32⟩
  | .local _ .vmem, ⟨37, _⟩ => ⟨S1x1, .f32⟩
  | .local _ .vmem, ⟨38, _⟩ => ⟨S1000x640, .f32⟩
  | .local _ .vmem, ⟨39, _⟩ => ⟨S1000x640, .f32⟩
  | .local _ .vmem, ⟨40, _⟩ => ⟨S1000x640, .f32⟩
  | .local _ .vmem, ⟨41, _⟩ => ⟨S1000x640, .f32⟩
  | .local _ .vmem, ⟨42, _⟩ => ⟨S1000x1, .f32⟩
  | .local _ .vmem, ⟨43, _⟩ => ⟨S1000x1, .f32⟩
  | .local _ .vmem, ⟨44, _⟩ => ⟨S2048x640, .f32⟩
  | .local _ .vmem, ⟨45, _⟩ => ⟨S2048x640, .f32⟩
  | .local _ .vmem, ⟨46, _⟩ => ⟨S2048x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0_0 : Ref sig .tc := ⟨.hbm, 18, rfl⟩
abbrev main_v0_1 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4_0 : Ref sig .tc := ⟨.hbm, 23, rfl⟩
abbrev main_v4_1 : Ref sig .tc := ⟨.hbm, 24, rfl⟩
abbrev main_v5 : Ref sig .tc := ⟨.hbm, 25, rfl⟩
abbrev main_v6 : Ref sig .tc := ⟨.hbm, 26, rfl⟩
abbrev main_v7_0 : Ref sig .tc := ⟨.hbm, 27, rfl⟩
abbrev main_v7_1 : Ref sig .tc := ⟨.hbm, 28, rfl⟩
abbrev main_v7_2 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc2_stg6_0 : Ref sig .tc := ⟨.vmem, 20, rfl⟩
abbrev cc2_stg7_0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg7_0 : Ref sig .tc := ⟨.vmem, 31, rfl⟩
abbrev cc3_stg8_0 : Ref sig .tc := ⟨.vmem, 32, rfl⟩
abbrev cc3_stg9_0 : Ref sig .tc := ⟨.vmem, 33, rfl⟩
abbrev cc3_stg10_0 : Ref sig .tc := ⟨.vmem, 34, rfl⟩
abbrev cc3_stg11_0 : Ref sig .tc := ⟨.vmem, 35, rfl⟩
abbrev cc3_stg12_0 : Ref sig .tc := ⟨.vmem, 36, rfl⟩
abbrev cc3_stg13_0 : Ref sig .tc := ⟨.vmem, 37, rfl⟩
abbrev cc3_stg14_0 : Ref sig .tc := ⟨.vmem, 38, rfl⟩
abbrev cc3_stg14_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc5_stg0_0 : Ref sig .tc := ⟨.vmem, 45, rfl⟩
abbrev cc5_stg1_0 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19
abbrev cc2_sem6_0 : DmaSem sig := 20
abbrev cc2_sem7_0 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem7_0 : DmaSem sig := 31
abbrev cc3_sem8_0 : DmaSem sig := 32
abbrev cc3_sem9_0 : DmaSem sig := 33
abbrev cc3_sem10_0 : DmaSem sig := 34
abbrev cc3_sem11_0 : DmaSem sig := 35
abbrev cc3_sem12_0 : DmaSem sig := 36
abbrev cc3_sem13_0 : DmaSem sig := 37
abbrev cc3_sem14_0 : DmaSem sig := 38
abbrev cc3_sem14_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc5_sem0_0 : DmaSem sig := 45
abbrev cc5_sem1_0 : DmaSem sig := 46

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := .none

abbrev stage1_0 : Fin 1 → Memref sig .tc .vmem S512x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S512x1536 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x1536 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x1536 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x1536 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S512x1536 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1x1536 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x1536 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1536 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1536x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1000x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1024x128 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128x128 .bf16 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S128x128 .bf16 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x128 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S1x1 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 2 → Memref sig .tc .vmem S1000x640 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S1000x640 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S2048x640 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := .none

abbrev stage5_0 : Fin 1 → Memref sig .tc .vmem S2048x640 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))

abbrev stage5_1 : Fin 1 → Memref sig .tc .vmem S2048x512 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
-- ==== ReferenceIdeal.lean ====
abbrev S50000x512 : Shape := ⟨2, ![50000, 512]⟩
abbrev S50000 : Shape := ⟨1, ![50000]⟩
abbrev S512x1536 : Shape := ⟨2, ![512, 1536]⟩
abbrev S1536 : Shape := ⟨1, ![1536]⟩
abbrev S1536x1024 : Shape := ⟨2, ![1536, 1024]⟩
abbrev S1024 : Shape := ⟨1, ![1024]⟩
abbrev S1024x128 : Shape := ⟨2, ![1024, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S50000x1536 : Shape := ⟨2, ![50000, 1536]⟩
abbrev S1x1536 : Shape := ⟨2, ![1, 1536]⟩
abbrev S_ : Shape := ⟨0, ![]⟩
abbrev S50000x1024 : Shape := ⟨2, ![50000, 1024]⟩
abbrev S1x1024 : Shape := ⟨2, ![1, 1024]⟩
abbrev S50000x128 : Shape := ⟨2, ![50000, 128]⟩
abbrev S1x128 : Shape := ⟨2, ![1, 128]⟩
abbrev S50000x1 : Shape := ⟨2, ![50000, 1]⟩
abbrev S1x1 : Shape := ⟨2, ![1, 1]⟩
abbrev S2048 : Shape := ⟨1, ![2048]⟩
abbrev S1x2048 : Shape := ⟨2, ![1, 2048]⟩
abbrev S50000x2048 : Shape := ⟨2, ![50000, 2048]⟩
abbrev S2048x1 : Shape := ⟨2, ![2048, 1]⟩
abbrev S2048x512 : Shape := ⟨2, ![2048, 512]⟩

abbrev nBuf : Space → Nat
  | .hbm => 230
  | .vmem => 0
  | .smem => 0
  | _ => 0

abbrev hbmTy0_0 (i : Nat) : BufTy := match i % 128 with
  | 0 => ⟨S50000x512, .f32⟩
  | 1 => ⟨S50000, .i32⟩
  | 2 => ⟨S512x1536, .f32⟩
  | 3 => ⟨S1536, .f32⟩
  | 4 => ⟨S1536, .f32⟩
  | 5 => ⟨S1536, .f32⟩
  | 6 => ⟨S1536x1024, .f32⟩
  | 7 => ⟨S1024, .f32⟩
  | 8 => ⟨S1024, .f32⟩
  | 9 => ⟨S1024, .f32⟩
  | 10 => ⟨S1024x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x1, .f32⟩
  | 17 => ⟨S1, .f32⟩
  | 18 => ⟨S50000x1536, .f32⟩
  | 19 => ⟨S1x1536, .f32⟩
  | 20 => ⟨S50000x1536, .f32⟩
  | 21 => ⟨S50000x1536, .f32⟩
  | 22 => ⟨S_, .f32⟩
  | 23 => ⟨S1536, .f32⟩
  | 24 => ⟨S_, .f32⟩
  | 25 => ⟨S1536, .f32⟩
  | 26 => ⟨S1536, .f32⟩
  | 27 => ⟨S_, .i32⟩
  | 28 => ⟨S_, .f32⟩
  | 29 => ⟨S1536, .f32⟩
  | 30 => ⟨S1x1536, .f32⟩
  | 31 => ⟨S_, .f32⟩
  | 32 => ⟨S1x1536, .f32⟩
  | 33 => ⟨S1x1536, .f32⟩
  | 34 => ⟨S50000x1536, .f32⟩
  | 35 => ⟨S50000x1536, .f32⟩
  | 36 => ⟨S50000x1536, .f32⟩
  | 37 => ⟨S_, .f32⟩
  | 38 => ⟨S_, .f32⟩
  | 39 => ⟨S_, .f32⟩
  | 40 => ⟨S_, .f32⟩
  | 41 => ⟨S1536, .f32⟩
  | 42 => ⟨S1536, .f32⟩
  | 43 => ⟨S1536, .f32⟩
  | 44 => ⟨S_, .f32⟩
  | 45 => ⟨S_, .i1⟩
  | 46 => ⟨S_, .f32⟩
  | 47 => ⟨S_, .f32⟩
  | 48 => ⟨S1536, .f32⟩
  | 49 => ⟨S1536, .f32⟩
  | 50 => ⟨S1x1536, .f32⟩
  | 51 => ⟨S50000x1536, .f32⟩
  | 52 => ⟨S50000x1536, .f32⟩
  | 53 => ⟨S_, .f32⟩
  | 54 => ⟨S1536, .f32⟩
  | 55 => ⟨S1536, .f32⟩
  | 56 => ⟨S1536, .f32⟩
  | 57 => ⟨S1x1536, .f32⟩
  | 58 => ⟨S50000x1536, .f32⟩
  | 59 => ⟨S50000x1536, .f32⟩
  | 60 => ⟨S1x1536, .f32⟩
  | 61 => ⟨S50000x1536, .f32⟩
  | 62 => ⟨S50000x1536, .f32⟩
  | 63 => ⟨S1x1536, .f32⟩
  | 64 => ⟨S50000x1536, .f32⟩
  | 65 => ⟨S50000x1536, .f32⟩
  | 66 => ⟨S_, .f32⟩
  | 67 => ⟨S_, .f32⟩
  | 68 => ⟨S50000x1536, .f32⟩
  | 69 => ⟨S50000x1536, .i1⟩
  | 70 => ⟨S_, .f32⟩
  | 71 => ⟨S50000x1536, .f32⟩
  | 72 => ⟨S50000x1536, .f32⟩
  | 73 => ⟨S50000x1536, .f32⟩
  | 74 => ⟨S50000x1024, .f32⟩
  | 75 => ⟨S1x1024, .f32⟩
  | 76 => ⟨S50000x1024, .f32⟩
  | 77 => ⟨S50000x1024, .f32⟩
  | 78 => ⟨S_, .f32⟩
  | 79 => ⟨S1024, .f32⟩
  | 80 => ⟨S_, .f32⟩
  | 81 => ⟨S1024, .f32⟩
  | 82 => ⟨S1024, .f32⟩
  | 83 => ⟨S_, .i32⟩
  | 84 => ⟨S_, .f32⟩
  | 85 => ⟨S1024, .f32⟩
  | 86 => ⟨S1x1024, .f32⟩
  | 87 => ⟨S_, .f32⟩
  | 88 => ⟨S1x1024, .f32⟩
  | 89 => ⟨S1x1024, .f32⟩
  | 90 => ⟨S50000x1024, .f32⟩
  | 91 => ⟨S50000x1024, .f32⟩
  | 92 => ⟨S50000x1024, .f32⟩
  | 93 => ⟨S_, .f32⟩
  | 94 => ⟨S_, .f32⟩
  | 95 => ⟨S_, .f32⟩
  | 96 => ⟨S_, .f32⟩
  | 97 => ⟨S1024, .f32⟩
  | 98 => ⟨S1024, .f32⟩
  | 99 => ⟨S1024, .f32⟩
  | 100 => ⟨S_, .f32⟩
  | 101 => ⟨S_, .i1⟩
  | 102 => ⟨S_, .f32⟩
  | 103 => ⟨S_, .f32⟩
  | 104 => ⟨S1024, .f32⟩
  | 105 => ⟨S1024, .f32⟩
  | 106 => ⟨S1x1024, .f32⟩
  | 107 => ⟨S50000x1024, .f32⟩
  | 108 => ⟨S50000x1024, .f32⟩
  | 109 => ⟨S_, .f32⟩
  | 110 => ⟨S1024, .f32⟩
  | 111 => ⟨S1024, .f32⟩
  | 112 => ⟨S1024, .f32⟩
  | 113 => ⟨S1x1024, .f32⟩
  | 114 => ⟨S50000x1024, .f32⟩
  | 115 => ⟨S50000x1024, .f32⟩
  | 116 => ⟨S1x1024, .f32⟩
  | 117 => ⟨S50000x1024, .f32⟩
  | 118 => ⟨S50000x1024, .f32⟩
  | 119 => ⟨S1x1024, .f32⟩
  | 120 => ⟨S50000x1024, .f32⟩
  | 121 => ⟨S50000x1024, .f32⟩
  | 122 => ⟨S_, .f32⟩
  | 123 => ⟨S_, .f32⟩
  | 124 => ⟨S50000x1024, .f32⟩
  | 125 => ⟨S50000x1024, .i1⟩
  | 126 => ⟨S_, .f32⟩
  | 127 => ⟨S50000x1024, .f32⟩
  | _ => ⟨S50000x512, .f32⟩

abbrev hbmTy0_1 (i : Nat) : BufTy := match i % 128 with
  | 0 => ⟨S50000x1024, .f32⟩
  | 1 => ⟨S50000x1024, .f32⟩
  | 2 => ⟨S50000x128, .f32⟩
  | 3 => ⟨S1x128, .f32⟩
  | 4 => ⟨S50000x128, .f32⟩
  | 5 => ⟨S50000x128, .f32⟩
  | 6 => ⟨S_, .f32⟩
  | 7 => ⟨S_, .f32⟩
  | 8 => ⟨S50000x128, .f32⟩
  | 9 => ⟨S50000x128, .i1⟩
  | 10 => ⟨S_, .f32⟩
  | 11 => ⟨S50000x128, .f32⟩
  | 12 => ⟨S50000x128, .f32⟩
  | 13 => ⟨S50000x128, .f32⟩
  | 14 => ⟨S50000x128, .f32⟩
  | 15 => ⟨S1x128, .f32⟩
  | 16 => ⟨S50000x128, .f32⟩
  | 17 => ⟨S50000x128, .f32⟩
  | 18 => ⟨S_, .f32⟩
  | 19 => ⟨S_, .f32⟩
  | 20 => ⟨S50000x128, .f32⟩
  | 21 => ⟨S50000x128, .i1⟩
  | 22 => ⟨S_, .f32⟩
  | 23 => ⟨S50000x128, .f32⟩
  | 24 => ⟨S50000x128, .f32⟩
  | 25 => ⟨S50000x128, .f32⟩
  | 26 => ⟨S50000x128, .f32⟩
  | 27 => ⟨S1x128, .f32⟩
  | 28 => ⟨S50000x128, .f32⟩
  | 29 => ⟨S50000x128, .f32⟩
  | 30 => ⟨S_, .f32⟩
  | 31 => ⟨S_, .f32⟩
  | 32 => ⟨S50000x128, .f32⟩
  | 33 => ⟨S50000x128, .i1⟩
  | 34 => ⟨S_, .f32⟩
  | 35 => ⟨S50000x128, .f32⟩
  | 36 => ⟨S50000x128, .f32⟩
  | 37 => ⟨S50000x128, .f32⟩
  | 38 => ⟨S50000x1, .f32⟩
  | 39 => ⟨S1x1, .f32⟩
  | 40 => ⟨S50000x1, .f32⟩
  | 41 => ⟨S50000x1, .f32⟩
  | 42 => ⟨S50000x1, .f32⟩
  | 43 => ⟨S50000x1, .f32⟩
  | 44 => ⟨S_, .f32⟩
  | 45 => ⟨S50000x1, .f32⟩
  | 46 => ⟨S50000x1, .f32⟩
  | 47 => ⟨S_, .f32⟩
  | 48 => ⟨S50000x1, .f32⟩
  | 49 => ⟨S50000x1, .f32⟩
  | 50 => ⟨S50000x1, .i32⟩
  | 51 => ⟨S2048, .i32⟩
  | 52 => ⟨S1x2048, .i32⟩
  | 53 => ⟨S50000x2048, .i32⟩
  | 54 => ⟨S50000x2048, .i32⟩
  | 55 => ⟨S50000x2048, .i1⟩
  | 56 => ⟨S_, .f32⟩
  | 57 => ⟨S_, .f32⟩
  | 58 => ⟨S50000x2048, .f32⟩
  | 59 => ⟨S50000x2048, .f32⟩
  | 60 => ⟨S50000x2048, .f32⟩
  | 61 => ⟨S_, .f32⟩
  | 62 => ⟨S2048, .f32⟩
  | 63 => ⟨S2048x1, .f32⟩
  | 64 => ⟨S_, .i32⟩
  | 65 => ⟨S50000, .i32⟩
  | 66 => ⟨S50000, .i1⟩
  | 67 => ⟨S_, .i32⟩
  | 68 => ⟨S50000, .i32⟩
  | 69 => ⟨S50000, .i32⟩
  | 70 => ⟨S50000, .i32⟩
  | 71 => ⟨S50000x1, .i32⟩
  | 72 => ⟨S50000x1, .f32⟩
  | 73 => ⟨S50000x1, .f32⟩
  | 74 => ⟨S50000x1, .f32⟩
  | 75 => ⟨S_, .f32⟩
  | 76 => ⟨S2048x1, .f32⟩
  | 77 => ⟨S50000x1, .i32⟩
  | 78 => ⟨S2048x1, .f32⟩
  | 79 => ⟨S_, .f32⟩
  | 80 => ⟨S2048x1, .f32⟩
  | 81 => ⟨S2048x1, .i1⟩
  | 82 => ⟨S_, .f32⟩
  | 83 => ⟨S_, .f32⟩
  | 84 => ⟨S2048x1, .f32⟩
  | 85 => ⟨S2048x1, .f32⟩
  | 86 => ⟨S_, .i32⟩
  | 87 => ⟨S50000, .i32⟩
  | 88 => ⟨S50000, .i1⟩
  | 89 => ⟨S_, .i32⟩
  | 90 => ⟨S50000, .i32⟩
  | 91 => ⟨S50000, .i32⟩
  | 92 => ⟨S50000, .i32⟩
  | 93 => ⟨S50000x1, .i32⟩
  | 94 => ⟨S50000x1, .f32⟩
  | 95 => ⟨S50000x1, .f32⟩
  | 96 => ⟨S50000x512, .f32⟩
  | 97 => ⟨S50000x512, .f32⟩
  | 98 => ⟨S_, .f32⟩
  | 99 => ⟨S2048x512, .f32⟩
  | 100 => ⟨S50000x1, .i32⟩
  | 101 => ⟨S2048x512, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_c : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_cst_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_cst_1 : Ref sig .tc := ⟨.hbm, 38, rfl⟩
abbrev main_call0_v8 : Ref sig .tc := ⟨.hbm, 39, rfl⟩
abbrev main_call0_cst_2 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_cst_3 : Ref sig .tc := ⟨.hbm, 44, rfl⟩
abbrev main_call0_v12 : Ref sig .tc := ⟨.hbm, 45, rfl⟩
abbrev main_call0_cst_4 : Ref sig .tc := ⟨.hbm, 46, rfl⟩
abbrev main_call0_call0_v0 : Ref sig .tc := ⟨.hbm, 47, rfl⟩
abbrev main_call0_call0_v1 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_cst_1 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_cst_2 : Ref sig .tc := ⟨.hbm, 66, rfl⟩
abbrev main_call1_cst : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_cst_3 : Ref sig .tc := ⟨.hbm, 78, rfl⟩
abbrev main_v28 : Ref sig .tc := ⟨.hbm, 79, rfl⟩
abbrev main_cst_4 : Ref sig .tc := ⟨.hbm, 80, rfl⟩
abbrev main_v29 : Ref sig .tc := ⟨.hbm, 81, rfl⟩
abbrev main_v30 : Ref sig .tc := ⟨.hbm, 82, rfl⟩
abbrev main_c_5 : Ref sig .tc := ⟨.hbm, 83, rfl⟩
abbrev main_call2_cst : Ref sig .tc := ⟨.hbm, 84, rfl⟩
abbrev main_call2_v0 : Ref sig .tc := ⟨.hbm, 85, rfl⟩
abbrev main_call2_v1 : Ref sig .tc := ⟨.hbm, 86, rfl⟩
abbrev main_call2_cst_0 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_v5 : Ref sig .tc := ⟨.hbm, 91, rfl⟩
abbrev main_call2_v6 : Ref sig .tc := ⟨.hbm, 92, rfl⟩
abbrev main_call2_v7 : Ref sig .tc := ⟨.hbm, 93, rfl⟩
abbrev main_call2_cst_1 : Ref sig .tc := ⟨.hbm, 94, rfl⟩
abbrev main_call2_v8 : Ref sig .tc := ⟨.hbm, 95, rfl⟩
abbrev main_call2_cst_2 : Ref sig .tc := ⟨.hbm, 96, rfl⟩
abbrev main_call2_v9 : Ref sig .tc := ⟨.hbm, 97, rfl⟩
abbrev main_call2_v10 : Ref sig .tc := ⟨.hbm, 98, rfl⟩
abbrev main_call2_v11 : Ref sig .tc := ⟨.hbm, 99, rfl⟩
abbrev main_call2_cst_3 : Ref sig .tc := ⟨.hbm, 100, rfl⟩
abbrev main_call2_v12 : Ref sig .tc := ⟨.hbm, 101, rfl⟩
abbrev main_call2_cst_4 : Ref sig .tc := ⟨.hbm, 102, rfl⟩
abbrev main_call2_call0_v0 : Ref sig .tc := ⟨.hbm, 103, rfl⟩
abbrev main_call2_call0_v1 : Ref sig .tc := ⟨.hbm, 104, rfl⟩
abbrev main_v31 : Ref sig .tc := ⟨.hbm, 105, rfl⟩
abbrev main_v32 : Ref sig .tc := ⟨.hbm, 106, rfl⟩
abbrev main_v33 : Ref sig .tc := ⟨.hbm, 107, rfl⟩
abbrev main_v34 : Ref sig .tc := ⟨.hbm, 108, rfl⟩
abbrev main_cst_6 : Ref sig .tc := ⟨.hbm, 109, rfl⟩
abbrev main_v35 : Ref sig .tc := ⟨.hbm, 110, rfl⟩
abbrev main_v36 : Ref sig .tc := ⟨.hbm, 111, rfl⟩
abbrev main_v37 : Ref sig .tc := ⟨.hbm, 112, rfl⟩
abbrev main_v38 : Ref sig .tc := ⟨.hbm, 113, rfl⟩
abbrev main_v39 : Ref sig .tc := ⟨.hbm, 114, rfl⟩
abbrev main_v40 : Ref sig .tc := ⟨.hbm, 115, rfl⟩
abbrev main_v41 : Ref sig .tc := ⟨.hbm, 116, rfl⟩
abbrev main_v42 : Ref sig .tc := ⟨.hbm, 117, rfl⟩
abbrev main_v43 : Ref sig .tc := ⟨.hbm, 118, rfl⟩
abbrev main_v44 : Ref sig .tc := ⟨.hbm, 119, rfl⟩
abbrev main_v45 : Ref sig .tc := ⟨.hbm, 120, rfl⟩
abbrev main_v46 : Ref sig .tc := ⟨.hbm, 121, rfl⟩
abbrev main_cst_7 : Ref sig .tc := ⟨.hbm, 122, rfl⟩
abbrev main_call3_cst : Ref sig .tc := ⟨.hbm, 123, rfl⟩
abbrev main_call3_v0 : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_v47 : Ref sig .tc := ⟨.hbm, 129, rfl⟩
abbrev main_v48 : Ref sig .tc := ⟨.hbm, 130, rfl⟩
abbrev main_v49 : Ref sig .tc := ⟨.hbm, 131, rfl⟩
abbrev main_v50 : Ref sig .tc := ⟨.hbm, 132, rfl⟩
abbrev main_v51 : Ref sig .tc := ⟨.hbm, 133, rfl⟩
abbrev main_cst_8 : Ref sig .tc := ⟨.hbm, 134, rfl⟩
abbrev main_call4_cst : Ref sig .tc := ⟨.hbm, 135, rfl⟩
abbrev main_call4_v0 : Ref sig .tc := ⟨.hbm, 136, rfl⟩
abbrev main_call4_v1 : Ref sig .tc := ⟨.hbm, 137, rfl⟩
abbrev main_call4_v2 : Ref sig .tc := ⟨.hbm, 138, rfl⟩
abbrev main_call4_v3 : Ref sig .tc := ⟨.hbm, 139, rfl⟩
abbrev main_call4_v4 : Ref sig .tc := ⟨.hbm, 140, rfl⟩
abbrev main_v52 : Ref sig .tc := ⟨.hbm, 141, rfl⟩
abbrev main_v53 : Ref sig .tc := ⟨.hbm, 142, rfl⟩
abbrev main_v54 : Ref sig .tc := ⟨.hbm, 143, rfl⟩
abbrev main_v55 : Ref sig .tc := ⟨.hbm, 144, rfl⟩
abbrev main_v56 : Ref sig .tc := ⟨.hbm, 145, rfl⟩
abbrev main_cst_9 : Ref sig .tc := ⟨.hbm, 146, rfl⟩
abbrev main_call5_cst : Ref sig .tc := ⟨.hbm, 147, rfl⟩
abbrev main_call5_v0 : Ref sig .tc := ⟨.hbm, 148, rfl⟩
abbrev main_call5_v1 : Ref sig .tc := ⟨.hbm, 149, rfl⟩
abbrev main_call5_v2 : Ref sig .tc := ⟨.hbm, 150, rfl⟩
abbrev main_call5_v3 : Ref sig .tc := ⟨.hbm, 151, rfl⟩
abbrev main_call5_v4 : Ref sig .tc := ⟨.hbm, 152, rfl⟩
abbrev main_v57 : Ref sig .tc := ⟨.hbm, 153, rfl⟩
abbrev main_v58 : Ref sig .tc := ⟨.hbm, 154, rfl⟩
abbrev main_v59 : Ref sig .tc := ⟨.hbm, 155, rfl⟩
abbrev main_v60 : Ref sig .tc := ⟨.hbm, 156, rfl⟩
abbrev main_v61 : Ref sig .tc := ⟨.hbm, 157, rfl⟩
abbrev main_cst_10 : Ref sig .tc := ⟨.hbm, 158, rfl⟩
abbrev main_call6_cst : Ref sig .tc := ⟨.hbm, 159, rfl⟩
abbrev main_call6_v0 : Ref sig .tc := ⟨.hbm, 160, rfl⟩
abbrev main_call6_v1 : Ref sig .tc := ⟨.hbm, 161, rfl⟩
abbrev main_call6_v2 : Ref sig .tc := ⟨.hbm, 162, rfl⟩
abbrev main_call6_v3 : Ref sig .tc := ⟨.hbm, 163, rfl⟩
abbrev main_call6_v4 : Ref sig .tc := ⟨.hbm, 164, rfl⟩
abbrev main_v62 : Ref sig .tc := ⟨.hbm, 165, rfl⟩
abbrev main_v63 : Ref sig .tc := ⟨.hbm, 166, rfl⟩
abbrev main_v64 : Ref sig .tc := ⟨.hbm, 167, rfl⟩
abbrev main_v65 : Ref sig .tc := ⟨.hbm, 168, rfl⟩
abbrev main_v66 : Ref sig .tc := ⟨.hbm, 169, rfl⟩
abbrev main_v67 : Ref sig .tc := ⟨.hbm, 170, rfl⟩
abbrev main_v68 : Ref sig .tc := ⟨.hbm, 171, rfl⟩
abbrev main_cst_11 : Ref sig .tc := ⟨.hbm, 172, rfl⟩
abbrev main_v69 : Ref sig .tc := ⟨.hbm, 173, rfl⟩
abbrev main_v70 : Ref sig .tc := ⟨.hbm, 174, rfl⟩
abbrev main_cst_12 : Ref sig .tc := ⟨.hbm, 175, rfl⟩
abbrev main_v71 : Ref sig .tc := ⟨.hbm, 176, rfl⟩
abbrev main_v72 : Ref sig .tc := ⟨.hbm, 177, rfl⟩
abbrev main_v73 : Ref sig .tc := ⟨.hbm, 178, rfl⟩
abbrev main_v74 : Ref sig .tc := ⟨.hbm, 179, rfl⟩
abbrev main_v75 : Ref sig .tc := ⟨.hbm, 180, rfl⟩
abbrev main_v76 : Ref sig .tc := ⟨.hbm, 181, rfl⟩
abbrev main_v77 : Ref sig .tc := ⟨.hbm, 182, rfl⟩
abbrev main_v78 : Ref sig .tc := ⟨.hbm, 183, rfl⟩
abbrev main_cst_13 : Ref sig .tc := ⟨.hbm, 184, rfl⟩
abbrev main_call7_v0 : Ref sig .tc := ⟨.hbm, 185, rfl⟩
abbrev main_call7_v1 : Ref sig .tc := ⟨.hbm, 186, rfl⟩
abbrev main_call7_v2 : Ref sig .tc := ⟨.hbm, 187, rfl⟩
abbrev main_v79 : Ref sig .tc := ⟨.hbm, 188, rfl⟩
abbrev main_cst_14 : Ref sig .tc := ⟨.hbm, 189, rfl⟩
abbrev main_v80 : Ref sig .tc := ⟨.hbm, 190, rfl⟩
abbrev main_v81 : Ref sig .tc := ⟨.hbm, 191, rfl⟩
abbrev main_c_15 : Ref sig .tc := ⟨.hbm, 192, rfl⟩
abbrev main_v82 : Ref sig .tc := ⟨.hbm, 193, rfl⟩
abbrev main_v83 : Ref sig .tc := ⟨.hbm, 194, rfl⟩
abbrev main_c_16 : Ref sig .tc := ⟨.hbm, 195, rfl⟩
abbrev main_v84 : Ref sig .tc := ⟨.hbm, 196, rfl⟩
abbrev main_v85 : Ref sig .tc := ⟨.hbm, 197, rfl⟩
abbrev main_v86 : Ref sig .tc := ⟨.hbm, 198, rfl⟩
abbrev main_v87 : Ref sig .tc := ⟨.hbm, 199, rfl⟩
abbrev main_v88 : Ref sig .tc := ⟨.hbm, 200, rfl⟩
abbrev main_v89 : Ref sig .tc := ⟨.hbm, 201, rfl⟩
abbrev main_v90 : Ref sig .tc := ⟨.hbm, 202, rfl⟩
abbrev main_cst_17 : Ref sig .tc := ⟨.hbm, 203, rfl⟩
abbrev main_v91 : Ref sig .tc := ⟨.hbm, 204, rfl⟩
abbrev main_v92 : Ref sig .tc := ⟨.hbm, 205, rfl⟩
abbrev main_v93 : Ref sig .tc := ⟨.hbm, 206, rfl⟩
abbrev main_cst_18 : Ref sig .tc := ⟨.hbm, 207, rfl⟩
abbrev main_v94 : Ref sig .tc := ⟨.hbm, 208, rfl⟩
abbrev main_v95 : Ref sig .tc := ⟨.hbm, 209, rfl⟩
abbrev main_cst_19 : Ref sig .tc := ⟨.hbm, 210, rfl⟩
abbrev main_call8_v0 : Ref sig .tc := ⟨.hbm, 211, rfl⟩
abbrev main_call8_v1 : Ref sig .tc := ⟨.hbm, 212, rfl⟩
abbrev main_v96 : Ref sig .tc := ⟨.hbm, 213, rfl⟩
abbrev main_c_20 : Ref sig .tc := ⟨.hbm, 214, rfl⟩
abbrev main_v97 : Ref sig .tc := ⟨.hbm, 215, rfl⟩
abbrev main_v98 : Ref sig .tc := ⟨.hbm, 216, rfl⟩
abbrev main_c_21 : Ref sig .tc := ⟨.hbm, 217, rfl⟩
abbrev main_v99 : Ref sig .tc := ⟨.hbm, 218, rfl⟩
abbrev main_v100 : Ref sig .tc := ⟨.hbm, 219, rfl⟩
abbrev main_v101 : Ref sig .tc := ⟨.hbm, 220, rfl⟩
abbrev main_v102 : Ref sig .tc := ⟨.hbm, 221, rfl⟩
abbrev main_v103 : Ref sig .tc := ⟨.hbm, 222, rfl⟩
abbrev main_v104 : Ref sig .tc := ⟨.hbm, 223, rfl⟩
abbrev main_v105 : Ref sig .tc := ⟨.hbm, 224, rfl⟩
abbrev main_v106 : Ref sig .tc := ⟨.hbm, 225, rfl⟩
abbrev main_cst_22 : Ref sig .tc := ⟨.hbm, 226, rfl⟩
abbrev main_v107 : Ref sig .tc := ⟨.hbm, 227, rfl⟩
abbrev main_v108 : Ref sig .tc := ⟨.hbm, 228, rfl⟩
abbrev main_v109 : Ref sig .tc := ⟨.hbm, 229, rfl⟩

abbrev nD : Nat := 1
abbrev τ : Topo := Topo.v7x

variable {F : FTy → Type} [FloatOps F]
-- ==== Proof.Run.lean ====
/-
  The kernel's run: it ends with every array at the contents the stages and the steps between them leave.
-/
module

public import proofs.«01_k».proof.Proof.Gen.KernelIdeal.Frame
public import Idealize.ShloMosaic.PureOps.Ideal

@[expose] public section

set_option maxRecDepth 16384

noncomputable section

namespace Cert.KernelIdeal.Run

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run of the kernel ends with every array at the contents after its last stage. -/
theorem final : θ_run defs (onTc (τ := τ) (main (F := Ideal))) ⟨m, fun _ => 0, ρ⟩
    (fun r => ∀ c : Dev nD, ∀ b ∈ Pipeline.ucRefs τ sig, r.2.mem ((c : Thread nD τ).1, b) = W10 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl⟩)
    (hinit := by
      refine Pipeline.initEach L lv fun c => ?_
      rw [show unscopedBufs c (fun b => m ((c : Thread nD τ).loc b))
          = StableHlo.held (c : Thread nD τ) (Pipeline.ucRefs τ sig) (W0 m ρ c) from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => fun c b hb => h c b hb)

end Cert.KernelIdeal.Run
-- ==== Proof.Formulas.lean ====
/-
  The formulas of the computation over the extended reals, as plain functions of matrices and rows.

  A matrix is a function of its two coordinates, a row a function of one. `mat`, `topRow`, `leftCol` and `vec` read
  an array as such a function. The definitions below name what one row of the network computes; the kernel's
  blocks are stated with them, and so is the value the whole kernel leaves.
-/
module

public import Idealize.ShloMosaic.Lib.Pointwise
public import Idealize.ShloMosaic.PureOps.Ideal

@[expose] public section

noncomputable section

namespace Cert.Pool

open Idealize.ShloMosaic
open scoped BigOperators

/-- A two-axis array as a function of its coordinates. -/
def mat {a b : ℕ} (v : (⟨2, ![a, b]⟩ : Shape).Idx → EReal) : Fin a → Fin b → EReal := fun i j => v (ix2 i j)

/-- The only row of a one-row array. -/
def topRow {b : ℕ} (v : (⟨2, ![1, b]⟩ : Shape).Idx → EReal) : Fin b → EReal := fun j => v (ix2 0 j)

/-- The only column of a one-column array. -/
def leftCol {a : ℕ} (v : (⟨2, ![a, 1]⟩ : Shape).Idx → EReal) : Fin a → EReal := fun i => v (ix2 i 0)

/-- A one-axis array as a function of its coordinate. -/
def vec {a : ℕ} (v : (⟨1, ![a]⟩ : Shape).Idx → EReal) : Fin a → EReal := fun i => v (ix1 i)

/-- The number of rows, 50000, as the float word the programs divide by. -/
def count : EReal := Ideal.ofBits .f32 0x47435000#32

/-- The small number added to a variance. -/
def small : EReal := Ideal.ofBits .f32 0x3727C5AC#32

/-- The slope of the rectifier on the negative side. -/
def slope : EReal := Ideal.ofBits .f32 0x3C23D70A#32

/-- The leaky rectifier. -/
def leak (y : EReal) : EReal := if 0 < y then y else slope * y

/-- One row through a dense layer. -/
def dense {K N : ℕ} (a : Fin K → EReal) (W : Fin K → Fin N → EReal) (b : Fin N → EReal) (j : Fin N) : EReal :=
  ∑ k, a k * W k j + b j

/-- The products of the columns of `X`, two at a time. -/
def gram {R K : ℕ} (X : Fin R → Fin K → EReal) (i j : Fin K) : EReal := ∑ n, X n i * X n j

/-- The sum of each column. -/
def colSum {R K : ℕ} (X : Fin R → Fin K → EReal) (j : Fin K) : EReal := ∑ n, X n j

/-- The mean of the first layer's output without its bias, from the column sums of its input. -/
def mean1 {K N : ℕ} (s : Fin K → EReal) (W : Fin K → Fin N → EReal) (j : Fin N) : EReal :=
  ∑ i, Ideal.div (s i) count * W i j

/-- The factor the first normalisation multiplies by, from the column products and sums of the layer's input. -/
def scale1 {K N : ℕ} (C : Fin K → Fin K → EReal) (s : Fin K → EReal) (W : Fin K → Fin N → EReal) (g : Fin N → EReal)
    (j : Fin N) : EReal :=
  g j * Ideal.rsqrt (Ideal.div (∑ i, W i j * ∑ k, C i k * W k j) count - mean1 s W j * mean1 s W j + small)

/-- The first layer's weights with the normalisation's factor taken in. -/
def weight1 {K N : ℕ} (C : Fin K → Fin K → EReal) (s : Fin K → EReal) (W : Fin K → Fin N → EReal) (g : Fin N → EReal)
    (i : Fin K) (j : Fin N) : EReal := W i j * scale1 C s W g j

/-- The first layer's bias with the normalisation taken in. -/
def bias1 {K N : ℕ} (C : Fin K → Fin K → EReal) (s : Fin K → EReal) (W : Fin K → Fin N → EReal) (g be : Fin N → EReal)
    (j : Fin N) : EReal := be j - mean1 s W j * scale1 C s W g j

/-- The factor the second normalisation multiplies by, from the sums and the sums of squares. -/
def scale2 {N : ℕ} (s q g : Fin N → EReal) (j : Fin N) : EReal :=
  g j * Ideal.rsqrt (Ideal.div (q j) count - Ideal.div (s j) count * Ideal.div (s j) count + small)

/-- What the second normalisation adds. -/
def shift2 {N : ℕ} (s q g be : Fin N → EReal) (j : Fin N) : EReal :=
  be j - Ideal.div (s j) count * scale2 s q g j

/-- The last four layers of the gate network on one row of normalised activations. -/
def logit {N M : ℕ} (a : Fin N → EReal) (W3 : Fin N → Fin M → EReal) (b3 : Fin M → EReal) (W4 : Fin M → Fin M → EReal)
    (b4 : Fin M → EReal) (W5 : Fin M → Fin M → EReal) (b5 w6 : Fin M → EReal) (b6 : EReal) : EReal :=
  ∑ l, leak (dense (fun k => leak (dense (fun k => leak (dense (fun k => leak (a k)) W3 b3 k)) W4 b4 k)) W5 b5 l) * w6 l + b6

/-- `1` where the proposition holds and `0` elsewhere. -/
def one (p : Prop) [Decidable p] : EReal := if p then 1 else 0

/-- A pooled sum over its pooled weight, an empty segment's weight replaced by `1`. -/
def ratio (num den : EReal) : EReal := num * Ideal.div 1 (if den = 0 then 1 else den)

/-- The arrays both programs are given, as functions of their coordinates: the rows, the rows' segment numbers, and the
six layers' weights and biases with the two normalisations' scales and shifts. -/
structure Inputs where
  x : Fin 50000 → Fin 512 → EReal
  seg : Fin 50000 → BitVec 32
  W1 : Fin 512 → Fin 1536 → EReal
  b1 : Fin 1536 → EReal
  g1 : Fin 1536 → EReal
  be1 : Fin 1536 → EReal
  W2 : Fin 1536 → Fin 1024 → EReal
  b2 : Fin 1024 → EReal
  g2 : Fin 1024 → EReal
  be2 : Fin 1024 → EReal
  W3 : Fin 1024 → Fin 128 → EReal
  b3 : Fin 128 → EReal
  W4 : Fin 128 → Fin 128 → EReal
  b4 : Fin 128 → EReal
  W5 : Fin 128 → Fin 128 → EReal
  b5 : Fin 128 → EReal
  w6 : Fin 128 → EReal
  b6 : EReal

namespace Kernel

variable (a : Inputs)

/-- The second layer of row `n`, as the kernel computes it. -/
def layer2 (n : Fin 50000) : Fin 1024 → EReal :=
  dense (fun k => leak (dense (a.x n) (weight1 (gram a.x) (colSum a.x) a.W1 a.g1)
    (bias1 (gram a.x) (colSum a.x) a.W1 a.g1 a.be1) k)) a.W2 a.b2

/-- The sums of the second layer. -/
def sums : Fin 1024 → EReal := fun j => ∑ n, layer2 a n j

/-- The sums of the squares of the second layer. -/
def squares : Fin 1024 → EReal := fun j => ∑ n, layer2 a n j * layer2 a n j

/-- The normalised second layer of row `n`, as the kernel computes it. -/
def act (n : Fin 50000) (k : Fin 1024) : EReal :=
  layer2 a n k * scale2 (sums a) (squares a) a.g2 k + shift2 (sums a) (squares a) a.g2 a.be2 k

/-- The weight of row `n`, as the kernel computes it. -/
def weight (n : Fin 50000) : EReal :=
  Ideal.exp (Ideal.logistic (logit (act a n) a.W3 a.b3 a.W4 a.b4 a.W5 a.b5 a.w6 a.b6))

/-- The kernel's result for segment `s`. -/
def result (s : Fin 2048) (d : Fin 512) : EReal :=
  ratio (∑ n, one ((((a.seg n).toInt : ℝ) : EReal) = ((s.val : ℝ) : EReal)) * (a.x n d * weight a n))
    (∑ n, one ((((a.seg n).toInt : ℝ) : EReal) = ((s.val : ℝ) : EReal)) * weight a n)

end Kernel

end Cert.Pool
-- ==== Proof.Blocks.lean ====
/-
  What one block of each stage of the kernel computes, read at an index, in the formulas of `Proof.Formulas`.
-/
module

public import proofs.«01_k».proof.Proof.Gen.KernelIdeal.Skeleton
public import proofs.«01_k».proof.Proof.Formulas

@[expose] public section

noncomputable section

namespace Cert.KernelIdeal.Gen

open Idealize.ShloMosaic Idealize.SL.Sem Cert.Pool
open scoped BigOperators

/-- The first stage adds its block's column products to the running products. -/
theorem gram_step (v3 : Vec Ideal S1000x512 .f32) (v5 : Vec Ideal S512x512 .f32) (i j : Fin 512) :
    k0_pay3 v3 v5 (ix2 i j) = v5 (ix2 i j) + gram (mat v3) i j := by
  pointwise [k0_pay3, gram, mat]

/-- The first stage adds its block's column sums to the running sums. -/
theorem sum_step (v10 : Vec Ideal S1x512 .f32) (v12 : Vec Ideal S1000x512 .f32) (j : Fin 512) :
    k0_pay4 v10 v12 (ix2 0 j) = v10 (ix2 0 j) + colSum (mat v12) j := by
  pointwise [k0_pay4, colSum, mat]

/-- The running products start at zero. -/
theorem gram_start (i j : Fin 512) : (k0_pay1 (F := Ideal)) (ix2 i j) = 0 := by
  pointwise [k0_pay1]

/-- The running sums start at zero. -/
theorem sum_start (j : Fin 512) : (k0_pay2 (F := Ideal)) (ix2 0 j) = 0 := by
  pointwise [k0_pay2]

/-- The second stage's mean of the first layer. -/
theorem mean_block (v0 : Vec Ideal S512x1536 .f32) (v11 : Vec Ideal S1x512 .f32) (j : Fin 1536) :
    k1_pay2 v0 v11 (ix2 0 j) = mean1 (topRow v11) (mat v0) j := by
  pointwise [k1_pay2, k1_pay1]
  rfl

/-- The second stage's factor of the first normalisation. -/
theorem scale_block (v0 : Vec Ideal S512x1536 .f32) (v2 : Vec Ideal S512x512 .f32) (v11 : Vec Ideal S1x512 .f32)
    (v19 : Vec Ideal S1x1536 .f32) (j : Fin 1536) :
    k1_pay3 v0 v2 v11 v19 (ix2 0 j) = scale1 (mat v2) (topRow v11) (mat v0) (topRow v19) j := by
  pointwise [k1_pay3, k1_pay1]
  rw [mean_block]
  rfl

/-- The second stage's weights. -/
theorem weight_block (v0 : Vec Ideal S512x1536 .f32) (v2 : Vec Ideal S512x512 .f32) (v11 : Vec Ideal S1x512 .f32)
    (v19 : Vec Ideal S1x1536 .f32) (i : Fin 512) (j : Fin 1536) :
    k1_pay4 v0 v2 v11 v19 (ix2 i j) = weight1 (mat v2) (topRow v11) (mat v0) (topRow v19) i j := by
  pointwise [k1_pay4]
  rw [scale_block]
  rfl

/-- The second stage's bias. -/
theorem bias_block (v0 : Vec Ideal S512x1536 .f32) (v2 : Vec Ideal S512x512 .f32) (v11 : Vec Ideal S1x512 .f32)
    (v19 v29 : Vec Ideal S1x1536 .f32) (j : Fin 1536) :
    k1_pay5 v0 v2 v11 v19 v29 (ix2 0 j) = bias1 (mat v2) (topRow v11) (mat v0) (topRow v19) (topRow v29) j := by
  pointwise [k1_pay5]
  rw [scale_block, mean_block]
  rfl

/-- The third stage's block: the first layer with its rectifier, then the second layer. -/
theorem layer2_block (v3 : Vec Ideal S1000x512 .f32) (v5 : Vec Ideal S512x1536 .bf16) (v8 : Vec Ideal S1x1536 .f32)
    (v18 : Vec Ideal S1536x1024 .bf16) (v21 : Vec Ideal S1x1024 .f32) (r : Fin 1000) (j : Fin 1024) :
    k2_pay4 v3 v5 v8 v18 v21 (ix2 r j)
      = dense (fun k => leak (dense (mat v3 r) (mat v5) (topRow v8) k)) (mat v18) (topRow v21) j := by
  pointwise [k2_pay4, dense, leak, mat, topRow]
  rfl

/-- The third stage adds its block's column sums to the running sums. -/
theorem layer2_sum_step (v3 : Vec Ideal S1000x512 .f32) (v5 : Vec Ideal S512x1536 .bf16) (v8 : Vec Ideal S1x1536 .f32)
    (v18 : Vec Ideal S1536x1024 .bf16) (v21 v26 : Vec Ideal S1x1024 .f32) (j : Fin 1024) :
    k2_pay5 v3 v5 v8 v18 v21 v26 (ix2 0 j) = v26 (ix2 0 j) + ∑ r : Fin 1000, k2_pay4 v3 v5 v8 v18 v21 (ix2 r j) := by
  pointwise [k2_pay5]

/-- The third stage adds its block's sums of squares to the running ones. -/
theorem layer2_square_step (v24 : Vec Ideal S1000x1024 .f32) (v32 : Vec Ideal S1x1024 .f32) (j : Fin 1024) :
    k2_pay1 v24 v32 (ix2 0 j) = v32 (ix2 0 j) + ∑ r : Fin 1000, v24 (ix2 r j) * v24 (ix2 r j) := by
  pointwise [k2_pay1]

/-- The sums start at zero. -/
theorem layer2_sum_start (j : Fin 1024) : (k2_pay2 (F := Ideal)) (ix2 0 j) = 0 := by
  pointwise [k2_pay2]

/-- The sums of squares start at zero. -/
theorem layer2_square_start (j : Fin 1024) : (k2_pay3 (F := Ideal)) (ix2 0 j) = 0 := by
  pointwise [k2_pay3]

/-- The fourth stage's third layer on the normalised, rectified rows. -/
theorem layer3_block (v0 v4 v10 v16 : Vec Ideal S1x1024 .f32) (v20 : Vec Ideal S1000x1024 .f32)
    (v32 : Vec Ideal S1024x128 .bf16) (v35 : Vec Ideal S1x128 .f32) (r : Fin 1000) (j : Fin 128) :
    k3_pay2 v0 v4 v10 v16 v20 v32 v35 (ix2 r j)
      = dense (fun k => leak (v20 (ix2 r k) * scale2 (topRow v0) (topRow v4) (topRow v10) k
          + shift2 (topRow v0) (topRow v4) (topRow v10) (topRow v16) k)) (mat v32) (topRow v35) j := by
  pointwise [k3_pay2, dense, leak, mat, topRow, scale2, shift2]
  rfl

/-- The fourth stage's last layers, without the last bias. -/
theorem logit_block (v38 : Vec Ideal S1000x128 .f32) (v45 : Vec Ideal S128x128 .bf16) (v48 : Vec Ideal S1x128 .f32)
    (v58 : Vec Ideal S128x128 .bf16) (v61 v70 : Vec Ideal S1x128 .f32) (r : Fin 1000) :
    k3_pay3 v38 v45 v48 v58 v61 v70 (ix2 r 0)
      = ∑ l, leak (dense (fun k => leak (dense (fun k => leak (v38 (ix2 r k))) (mat v45) (topRow v48) k)) (mat v58)
          (topRow v61) l) * v70 (ix2 0 l) := by
  pointwise [k3_pay3, dense, leak, mat, topRow]
  rfl

/-- The gate before its logistic, on the fourth stage's blocks. -/
theorem gate_block (v0 v4 v10 v16 : Vec Ideal S1x1024 .f32) (v20 : Vec Ideal S1000x1024 .f32)
    (v32 : Vec Ideal S1024x128 .bf16) (v35 : Vec Ideal S1x128 .f32) (v45 : Vec Ideal S128x128 .bf16)
    (v48 : Vec Ideal S1x128 .f32) (v58 : Vec Ideal S128x128 .bf16) (v61 v70 : Vec Ideal S1x128 .f32)
    (v76 : Vec Ideal S1x1 .f32) (r : Fin 1000) :
    k3_pay3 (k3_pay2 v0 v4 v10 v16 v20 v32 v35) v45 v48 v58 v61 v70 (ix2 r 0) + k3_pay4 v76 (ix2 0 0)
      = logit (fun k => mat v20 r k * scale2 (topRow v0) (topRow v4) (topRow v10) k
          + shift2 (topRow v0) (topRow v4) (topRow v10) (topRow v16) k) (mat v32) (topRow v35) (mat v45) (topRow v48)
          (mat v58) (topRow v61) (topRow v70) (mat v76 0 0) := by
  rw [logit_block]
  simp only [layer3_block]
  unfold k3_pay4
  rw [shapeCast_self]
  rfl

/-- The fourth stage's block at one of the first 512 columns: the row's entry times the row's weight. -/
theorem weighted_block (v75 : Vec Ideal S1000x1 .f32) (v77 : Vec Ideal S1x1 .f32) (v82 : Vec Ideal S1000x512 .f32)
    (r : Fin 1000) (d : Fin 512) :
    k3_pay1 v75 v77 v82 (ix2 r ⟨d.val, by have := d.isLt; omega⟩)
      = v82 (ix2 r d) * Ideal.exp (Ideal.logistic (v75 (ix2 r 0) + v77 (ix2 0 0))) := by
  pointwise [k3_pay1]

/-- The fourth stage's block at column 512: the row's weight. -/
theorem weight_column (v75 : Vec Ideal S1000x1 .f32) (v77 : Vec Ideal S1x1 .f32) (v82 : Vec Ideal S1000x512 .f32)
    (r : Fin 1000) :
    k3_pay1 v75 v77 v82 (ix2 r ⟨512, by omega⟩) = Ideal.exp (Ideal.logistic (v75 (ix2 r 0) + v77 (ix2 0 0))) := by
  pointwise [k3_pay1]

/-- A comparison's bit, widened and read as a number, is `1` where it holds and `0` elsewhere. -/
theorem mark_word (p : Prop) [Decidable p] :
    FloatOps.sitofp (F := Ideal) FTy.f32 (BitVec.setWidth 32 (BitVec.ofBool (decide p))) = one p := by
  show (((BitVec.setWidth 32 (BitVec.ofBool (decide p))).toInt : ℝ) : EReal) = one p
  unfold one
  by_cases h : p
  · have e : (BitVec.setWidth 32 (BitVec.ofBool (decide p))).toInt = 1 := by simp only [h, decide_true]; decide
    rw [e, if_pos h]; norm_num
  · have e : (BitVec.setWidth 32 (BitVec.ofBool (decide p))).toInt = 0 := by simp only [h, decide_false]; decide
    rw [e, if_neg h]; norm_num

/-- A segment's number, from its word. -/
theorem segment_word (s : Fin 2048) :
    FloatOps.sitofp (F := Ideal) FTy.f32 (BitVec.ofNat 32 s.val) = ((s.val : ℝ) : EReal) := by
  show (((BitVec.ofNat 32 s.val).toInt : ℝ) : EReal) = _
  have e : (BitVec.ofNat 32 s.val).toInt = (s.val : ℤ) := by
    have hs := s.isLt
    have hn : (BitVec.ofNat 32 s.val).toNat = s.val := by rw [BitVec.toNat_ofNat]; omega
    rw [BitVec.toInt_eq_toNat_of_lt (by rw [hn]; omega), hn]
  rw [e]; norm_num

/-- The fifth stage adds to each segment its block's rows of that segment. -/
theorem pool_step (v5 : Vec Ideal S1000x1 .f32) (v12 : Vec Ideal S2048x640 .f32) (v14 : Vec Ideal S1000x640 .f32)
    (s : Fin 2048) (c : Fin 640) :
    k4_pay2 v5 v12 v14 (ix2 s c) = v12 (ix2 s c) + ∑ r : Fin 1000, one (mat v5 r 0 = ((s.val : ℝ) : EReal)) * mat v14 r c := by
  pointwise [k4_pay2]
  refine congrArg (v12 (ix2 s c) + ·) (Finset.sum_congr rfl fun r _ => ?_)
  rw [mark_word, segment_word]
  rfl

/-- The pooled sums start at zero. -/
theorem pool_start (s : Fin 2048) (c : Fin 640) : (k4_pay1 (F := Ideal)) (ix2 s c) = 0 := by
  pointwise [k4_pay1]

/-- The last stage divides each segment's sums by its weight. -/
theorem ratio_block (v0 : Vec Ideal S2048x640 .f32) (s : Fin 2048) (d : Fin 512) :
    k5_pay1 v0 (ix2 s d) = ratio (v0 (ix2 s ⟨d.val, by have := d.isLt; omega⟩)) (v0 (ix2 s ⟨512, by omega⟩)) := by
  pointwise [k5_pay1]
  rfl

end Cert.KernelIdeal.Gen
-- ==== Proof.Tiles.lean ====
/-
  Sums over the 50000 rows taken as 50 blocks of 1000 rows, and running sums.
-/
module

public import proofs.«01_k».proof.Proof.Formulas
public import Mathlib.Logic.Equiv.Fin.Basic
public import Mathlib.Algebra.BigOperators.Fin

@[expose] public section

namespace Cert.Pool

open scoped BigOperators

/-- Row `r` of block `t`, among all rows. -/
def rowAt (t : Fin 50) (r : Fin 1000) : Fin 50000 := ⟨t.val * 1000 + r.val, by have := t.isLt; have := r.isLt; omega⟩

/-- The sum over all rows is the sum over the blocks of the sums over each block's rows. -/
theorem sum_blocks (f : Fin 50000 → EReal) : ∑ t, ∑ r, f (rowAt t r) = ∑ n, f n := by
  rw [← Fintype.sum_prod_type' (f := fun t r => f (rowAt t r))]
  refine Fintype.sum_equiv (finProdFinEquiv (m := 50) (n := 1000)) _ f fun p => congrArg f (Fin.ext ?_)
  show p.1.val * 1000 + p.2.val = p.2.val + 1000 * p.1.val
  omega

/-- A quantity that starts at the first addend and gains one addend at each later point is the sum of the addends so
far. -/
theorem running_sum {N : ℕ} (f : (n : ℕ) → n < N → EReal) (g : Fin N → EReal) (h0 : ∀ h, f 0 h = g ⟨0, h⟩)
    (hs : ∀ n h, f (n + 1) h = f n (Nat.lt_of_succ_lt h) + g ⟨n + 1, h⟩) :
    ∀ n h, f n h = ∑ t : Fin (n + 1), g ⟨t.val, Nat.lt_of_lt_of_le t.isLt h⟩
  | 0, h => by rw [h0, Fin.sum_univ_one]; rfl
  | n + 1, h => by
    rw [hs, running_sum f g h0 hs n]
    exact (Fin.sum_univ_castSucc fun t : Fin (n + 1 + 1) => g ⟨t.val, Nat.lt_of_lt_of_le t.isLt h⟩).symm

/-- Over fifty points, a quantity that starts at the first addend and gains one addend at each later point is at the
last point the sum of all addends. -/
theorem running_total {N : ℕ} (hN : N = 50) (f : (n : ℕ) → n < N → EReal) (g : Fin 50 → EReal)
    (h0 : ∀ h, f 0 h = g (Fin.cast hN ⟨0, h⟩))
    (hs : ∀ n h, ¬(n + 1) % 50 = 0 → f (n + 1) h = f n (Nat.lt_of_succ_lt h) + g (Fin.cast hN ⟨n + 1, h⟩)) (t : Fin N)
    (ht : t.val % 50 = 49) : f t.val t.isLt = ∑ s, g s := by
  subst hN
  obtain ⟨n, h⟩ := t
  obtain rfl : n = 49 := by dsimp only at ht; omega
  exact running_sum f g h0 (fun n h => hs n h (by omega)) 49 h

end Cert.Pool
-- ==== Proof.Stage0.lean ====
/-
  The first stage: over its fifty blocks of rows it accumulates the products of the columns of `x` and their sums.
-/
module

public import proofs.«01_k».proof.Proof.Gen.KernelIdeal.Frame.Region0
public import proofs.«01_k».proof.Proof.Blocks
public import proofs.«01_k».proof.Proof.Tiles
public import Idealize.ShloMosaic.Lib.Pipeline.ValueKit

@[expose] public section

set_option maxRecDepth 16384

noncomputable section

namespace Cert.KernelIdeal.Stage0

open Cert.KernelIdeal Cert.KernelIdeal.Gen Idealize.ShloMosaic Idealize.ShloMosaic.TcCoe Idealize.ShloMosaic.Tactic
open Idealize.SL.Sem Cert.Pool
open Idealize.ShloMosaic.Pipeline (Dat)
open scoped BigOperators

variable (V : (c : Dev nD) → (b : Ref sig .tc) → Buf (Elt Ideal) ((c : Thread nD τ).loc b))

/-- The input array, as a matrix. -/
def X (c : Dev nD) : Fin 50000 → Fin 512 → EReal := mat (V c main_arg0 : Vec Ideal S50000x512 .f32)

/-- Block `t` of the input is its rows `1000 t … 1000 t + 999`. -/
theorem block_eq (c : Dev nD) (t : Fin cfg0.N) :
    mat (iblk0 V c 0 t : Vec Ideal S1000x512 .f32) = fun r => X V c (rowAt (t.cast N_0) r) := by
  have hi : ∀ t : Fin cfg0.N, win0_0.index t = ![t.val, 0] := by decide +kernel
  funext r k
  unfold X mat
  blk_simp [iblk0, hi]
  refine congrArg (V c main_arg0 : Vec Ideal S50000x512 .f32) (funext fun a => Fin.ext ?_)
  fin_cases a <;> blk_simp [hi] <;> rfl

/-- After the last point the first buffer holds the products of the columns of `x`. -/
theorem last_products (c : Dev nD) (t : Fin cfg0.N) (ht : t.val % 50 = 49) (i j : Fin 512) :
    (outsAt0 V c t.val t.isLt).1 (ix2 i j) = gram (X V c) i j := by
  refine (running_total N_0 (fun n h => (outsAt0 V c n h).1 (ix2 i j))
    (fun t => ∑ r, X V c (rowAt t r) i * X V c (rowAt t r) j) (fun h => ?_) (fun n h hB => ?_) t ht).trans
    (sum_blocks fun n => X V c n i * X V c n j)
  · show (outsAt0 V c (⟨0, h⟩ : Fin cfg0.N).val _).1 (ix2 i j) = _
    rw [outsAt0_A V c ⟨0, h⟩ rfl]
    frame_out
    rw [gram_step, gram_start, zero_add, block_eq, gram]
  · show (outsAt0 V c (⟨n + 1, h⟩ : Fin cfg0.N).val _).1 (ix2 i j) = _
    rw [outsAt0_B V c ⟨n + 1, h⟩ hB]
    frame_out
    rw [gram_step, block_eq, gram]
    rfl

/-- After the last point the second buffer holds the column sums of `x`. -/
theorem last_sums (c : Dev nD) (t : Fin cfg0.N) (ht : t.val % 50 = 49) (j : Fin 512) :
    (outsAt0 V c t.val t.isLt).2 (ix2 0 j) = colSum (X V c) j := by
  refine (running_total N_0 (fun n h => (outsAt0 V c n h).2 (ix2 0 j))
    (fun t => ∑ r, X V c (rowAt t r) j) (fun h => ?_) (fun n h hB => ?_) t ht).trans (sum_blocks fun n => X V c n j)
  · show (outsAt0 V c (⟨0, h⟩ : Fin cfg0.N).val _).2 (ix2 0 j) = _
    rw [outsAt0_A V c ⟨0, h⟩ rfl]
    frame_out
    rw [sum_step, sum_start, zero_add, block_eq, colSum]
  · show (outsAt0 V c (⟨n + 1, h⟩ : Fin cfg0.N).val _).2 (ix2 0 j) = _
    rw [outsAt0_B V c ⟨n + 1, h⟩ hB]
    frame_out
    rw [sum_step, block_eq, colSum]
    rfl

/-- After the stage the first result holds the products of the columns of `x`. -/
theorem products (c : Dev nD) : mat ((dat0 V c).arrAt 1 cfg0.N : Vec Ideal S512x512 .f32) = gram (X V c) := by
  have hi : ∀ t : Fin cfg0.N, win0_1.index t = ![0, 0] := by decide +kernel
  suffices h : (dat0 V c).arrAt 1 cfg0.N = fun y : S512x512.Idx => gram (X V c) (y 0) (y 1) by rw [h]; rfl
  refine (dat0 V c).arrAt_eq_of_covers 1 _ (by decide +kernel) fun t hf y => ?_
  blk_simp
  rw [after0_1]
  refine (congrArg _ (eq_ix2 y)).trans ((last_products V c t ((flush0_1 t).mp hf) (y 0) (y 1)).trans ?_)
  refine congrArg₂ (gram (X V c)) (Fin.ext ?_) (Fin.ext ?_) <;> blk_simp [hi] <;> simp

/-- After the stage the second result holds the column sums of `x`. -/
theorem sums (c : Dev nD) : topRow ((dat0 V c).arrAt 2 cfg0.N : Vec Ideal S1x512 .f32) = colSum (X V c) := by
  have hi : ∀ t : Fin cfg0.N, win0_2.index t = ![0, 0] := by decide +kernel
  suffices h : (dat0 V c).arrAt 2 cfg0.N = fun y : S1x512.Idx => colSum (X V c) (y 1) by rw [h]; rfl
  refine (dat0 V c).arrAt_eq_of_covers 2 _ (by decide +kernel) fun t hf y => ?_
  have hy : y = ix2 (0 : Fin 1) (y 1) := (eq_ix2 y).trans (congrArg (fun a : Fin 1 => ix2 a (y 1)) (Subsingleton.elim _ _))
  blk_simp
  rw [after0_2]
  refine (congrArg _ hy).trans ((last_sums V c t ((flush0_2 t).mp hf) (y 1)).trans ?_)
  refine congrArg (colSum (X V c)) (Fin.ext ?_)
  blk_simp [hi]

end Cert.KernelIdeal.Stage0
-- ==== Proof.Stage1.lean ====
/-
  The second stage: it folds the first normalisation into the first layer's weights and bias.
-/
module

public import proofs.«01_k».proof.Proof.Gen.KernelIdeal.Frame.Region1
public import proofs.«01_k».proof.Proof.Blocks
public import proofs.«01_k».proof.Proof.Tiles
public import Idealize.ShloMosaic.Lib.Pipeline.ValueKit

@[expose] public section

set_option maxRecDepth 16384

noncomputable section

namespace Cert.KernelIdeal.Stage1

open Cert.KernelIdeal Cert.KernelIdeal.Gen Idealize.ShloMosaic Idealize.ShloMosaic.TcCoe Idealize.ShloMosaic.Tactic
open Idealize.SL.Sem Cert.Pool
open Idealize.ShloMosaic.Pipeline (Dat)
open scoped BigOperators

variable (V : (c : Dev nD) → (b : Ref sig .tc) → Buf (Elt Ideal) ((c : Thread nD τ).loc b))

/-- The stage finds `main_v0_0` whole in its block. -/
theorem block0_eq (c : Dev nD) (t : Fin cfg1.N) : (iblk1 V c 0 t : Vec Ideal S512x512 .f32) = V c main_v0_0 := by
  have hi : ∀ t a, win1_0.index t a = 0 := fun _ _ => rfl
  funext y
  blk_simp [iblk1, hi]
  refine congrArg (V c main_v0_0 : Vec Ideal S512x512 .f32) (funext fun a => Fin.ext ?_)
  fin_cases a <;> blk_simp [hi] <;> simp

/-- The stage finds `main_v0_1` whole in its block. -/
theorem block1_eq (c : Dev nD) (t : Fin cfg1.N) : (iblk1 V c 1 t : Vec Ideal S1x512 .f32) = V c main_v0_1 := by
  have hi : ∀ t a, win1_1.index t a = 0 := fun _ _ => rfl
  funext y
  blk_simp [iblk1, hi]
  refine congrArg (V c main_v0_1 : Vec Ideal S1x512 .f32) (funext fun a => Fin.ext ?_)
  fin_cases a <;> blk_simp [hi] <;> simp

/-- The stage finds `main_arg2` whole in its block. -/
theorem block2_eq (c : Dev nD) (t : Fin cfg1.N) : (iblk1 V c 2 t : Vec Ideal S512x1536 .f32) = V c main_arg2 := by
  have hi : ∀ t a, win1_2.index t a = 0 := fun _ _ => rfl
  funext y
  blk_simp [iblk1, hi]
  refine congrArg (V c main_arg2 : Vec Ideal S512x1536 .f32) (funext fun a => Fin.ext ?_)
  fin_cases a <;> blk_simp [hi] <;> simp

/-- The stage finds `main_v2` whole in its block. -/
theorem block4_eq (c : Dev nD) (t : Fin cfg1.N) : (iblk1 V c 4 t : Vec Ideal S1x1536 .f32) = V c main_v2 := by
  have hi : ∀ t a, win1_4.index t a = 0 := fun _ _ => rfl
  funext y
  blk_simp [iblk1, hi]
  refine congrArg (V c main_v2 : Vec Ideal S1x1536 .f32) (funext fun a => Fin.ext ?_)
  fin_cases a <;> blk_simp [hi] <;> simp

/-- The stage finds `main_v3` whole in its block. -/
theorem block5_eq (c : Dev nD) (t : Fin cfg1.N) : (iblk1 V c 5 t : Vec Ideal S1x1536 .f32) = V c main_v3 := by
  have hi : ∀ t a, win1_5.index t a = 0 := fun _ _ => rfl
  funext y
  blk_simp [iblk1, hi]
  refine congrArg (V c main_v3 : Vec Ideal S1x1536 .f32) (funext fun a => Fin.ext ?_)
  fin_cases a <;> blk_simp [hi] <;> simp

/-- The column products the stage is given. -/
def C (c : Dev nD) : Fin 512 → Fin 512 → EReal := mat (V c main_v0_0 : Vec Ideal S512x512 .f32)

/-- The column sums the stage is given. -/
def s (c : Dev nD) : Fin 512 → EReal := topRow (V c main_v0_1 : Vec Ideal S1x512 .f32)

/-- The weights the stage is given. -/
def W (c : Dev nD) : Fin 512 → Fin 1536 → EReal := mat (V c main_arg2 : Vec Ideal S512x1536 .f32)

/-- The scale the stage is given. -/
def g (c : Dev nD) : Fin 1536 → EReal := topRow (V c main_v2 : Vec Ideal S1x1536 .f32)

/-- The shift the stage is given. -/
def be (c : Dev nD) : Fin 1536 → EReal := topRow (V c main_v3 : Vec Ideal S1x1536 .f32)

/-- After the stage the first result holds the folded weights. -/
theorem weights (c : Dev nD) :
    mat ((dat1 V c).arrAt 6 cfg1.N : Vec Ideal S512x1536 .bf16) = weight1 (C V c) (s V c) (W V c) (g V c) := by
  suffices h : (dat1 V c).arrAt 6 cfg1.N = fun y : S512x1536.Idx => weight1 (C V c) (s V c) (W V c) (g V c) (y 0) (y 1) by
    rw [h]; rfl
  have hi : ∀ t a, win1_6.index t a = 0 := fun _ _ => rfl
  refine (dat1 V c).arrAt_eq_of_covers 6 _ (by decide +kernel) fun t hf y => ?_
  blk_simp
  rw [after1_6]
  frame_out
  rw [block0_eq, block1_eq, block2_eq, block4_eq]
  exact (congrArg _ (eq_ix2 y)).trans ((weight_block _ _ _ _ (y 0) (y 1)).trans
    (congrArg₂ (weight1 (C V c) (s V c) (W V c) (g V c)) (Fin.ext (by blk_simp [hi])) (Fin.ext (by blk_simp [hi]))))

/-- After the stage the second result holds the folded bias. -/
theorem biases (c : Dev nD) :
    topRow ((dat1 V c).arrAt 7 cfg1.N : Vec Ideal S1x1536 .f32) = bias1 (C V c) (s V c) (W V c) (g V c) (be V c) := by
  suffices h : (dat1 V c).arrAt 7 cfg1.N = fun y : S1x1536.Idx => bias1 (C V c) (s V c) (W V c) (g V c) (be V c) (y 1) by
    rw [h]; rfl
  have hi : ∀ t a, win1_7.index t a = 0 := fun _ _ => rfl
  refine (dat1 V c).arrAt_eq_of_covers 7 _ (by decide +kernel) fun t hf y => ?_
  have hy : y = ix2 (0 : Fin 1) (y 1) := (eq_ix2 y).trans (congrArg (fun a : Fin 1 => ix2 a (y 1)) (Subsingleton.elim _ _))
  blk_simp
  rw [after1_7]
  frame_out
  rw [block0_eq, block1_eq, block2_eq, block4_eq, block5_eq]
  exact (congrArg _ hy).trans ((bias_block _ _ _ _ _ (y 1)).trans
    (congrArg (bias1 (C V c) (s V c) (W V c) (g V c) (be V c)) (Fin.ext (by blk_simp [hi]))))

end Cert.KernelIdeal.Stage1
-- ==== Proof.Stage2.lean ====
/-
  The third stage: over its fifty blocks of rows it computes the second layer, and accumulates its sums and sums of squares.
-/
module

public import proofs.«01_k».proof.Proof.Gen.KernelIdeal.Frame.Region2
public import proofs.«01_k».proof.Proof.Blocks
public import proofs.«01_k».proof.Proof.Tiles
public import Idealize.ShloMosaic.Lib.Pipeline.ValueKit

@[expose] public section

set_option maxRecDepth 16384

noncomputable section

namespace Cert.KernelIdeal.Stage2

open Cert.KernelIdeal Cert.KernelIdeal.Gen Idealize.ShloMosaic Idealize.ShloMosaic.TcCoe Idealize.ShloMosaic.Tactic
open Idealize.SL.Sem Cert.Pool
open Idealize.ShloMosaic.Pipeline (Dat)
open scoped BigOperators

variable (V : (c : Dev nD) → (b : Ref sig .tc) → Buf (Elt Ideal) ((c : Thread nD τ).loc b))

/-- Block `t` of `main_arg0` is its rows `1000 t … 1000 t + 999`. -/
theorem block0_eq (c : Dev nD) (t : Fin cfg2.N) :
    mat (iblk2 V c 0 t : Vec Ideal S1000x512 .f32) = fun r => mat (V c main_arg0 : Vec Ideal S50000x512 .f32) (rowAt (t.cast N_2) r) := by
  have hi : ∀ t : Fin cfg2.N, win2_0.index t = ![t.val, 0] := by decide +kernel
  funext r k
  unfold mat
  blk_simp [iblk2, hi]
  refine congrArg (V c main_arg0 : Vec Ideal S50000x512 .f32) (funext fun a => Fin.ext ?_)
  fin_cases a <;> blk_simp [hi] <;> rfl

/-- The stage finds `main_v4_0` whole in its block. -/
theorem block1_eq (c : Dev nD) (t : Fin cfg2.N) : (iblk2 V c 1 t : Vec Ideal S512x1536 .bf16) = V c main_v4_0 := by
  have hi : ∀ t : Fin cfg2.N, win2_1.index t = ![0, 0] := by decide +kernel
  funext y
  blk_simp [iblk2, hi]
  refine congrArg (V c main_v4_0 : Vec Ideal S512x1536 .bf16) (funext fun a => Fin.ext ?_)
  fin_cases a <;> blk_simp [hi] <;> simp

/-- The stage finds `main_v4_1` whole in its block. -/
theorem block2_eq (c : Dev nD) (t : Fin cfg2.N) : (iblk2 V c 2 t : Vec Ideal S1x1536 .f32) = V c main_v4_1 := by
  have hi : ∀ t : Fin cfg2.N, win2_2.index t = ![0, 0] := by decide +kernel
  funext y
  blk_simp [iblk2, hi]
  refine congrArg (V c main_v4_1 : Vec Ideal S1x1536 .f32) (funext fun a => Fin.ext ?_)
  fin_cases a <;> blk_simp [hi] <;> simp

/-- The stage finds `main_v5` whole in its block. -/
theorem block3_eq (c : Dev nD) (t : Fin cfg2.N) : (iblk2 V c 3 t : Vec Ideal S1536x1024 .bf16) = V c main_v5 := by
  have hi : ∀ t : Fin cfg2.N, win2_3.index t = ![0, 0] := by decide +kernel
  funext y
  blk_simp [iblk2, hi]
  refine congrArg (V c main_v5 : Vec Ideal S1536x1024 .bf16) (funext fun a => Fin.ext ?_)
  fin_cases a <;> blk_simp [hi] <;> simp

/-- The stage finds `main_v6` whole in its block. -/
theorem block4_eq (c : Dev nD) (t : Fin cfg2.N) : (iblk2 V c 4 t : Vec Ideal S1x1024 .f32) = V c main_v6 := by
  have hi : ∀ t : Fin cfg2.N, win2_4.index t = ![0, 0] := by decide +kernel
  funext y
  blk_simp [iblk2, hi]
  refine congrArg (V c main_v6 : Vec Ideal S1x1024 .f32) (funext fun a => Fin.ext ?_)
  fin_cases a <;> blk_simp [hi] <;> simp

/-- The second layer of row `n`, on the arrays the stage is given. -/
def H (c : Dev nD) (n : Fin 50000) : Fin 1024 → EReal :=
  dense (fun k => leak (dense (mat (V c main_arg0 : Vec Ideal S50000x512 .f32) n)
      (mat (V c main_v4_0 : Vec Ideal S512x1536 .bf16)) (topRow (V c main_v4_1 : Vec Ideal S1x1536 .f32)) k))
    (mat (V c main_v5 : Vec Ideal S1536x1024 .bf16)) (topRow (V c main_v6 : Vec Ideal S1x1024 .f32))

/-- What the body computes at point `t` is the second layer of the block's rows. -/
theorem layer_rows (c : Dev nD) (t : Fin cfg2.N) (r : Fin 1000) (j : Fin 1024) :
    k2_pay4 (F := Ideal) (iblk2 V c 0 t) (iblk2 V c 1 t) (iblk2 V c 2 t) (iblk2 V c 3 t) (iblk2 V c 4 t) (ix2 r j)
      = H V c (rowAt (t.cast N_2) r) j := by
  rw [layer2_block, block0_eq, block1_eq, block2_eq, block3_eq, block4_eq]
  rfl

/-- At every point the first buffer holds the second layer of the block's rows. -/
theorem rows_at (c : Dev nD) (t : Fin cfg2.N) (r : Fin 1000) (j : Fin 1024) :
    (outsAt2 V c t.val t.isLt).1 (ix2 r j) = H V c (rowAt (t.cast N_2) r) j := by
  by_cases h : t.val % 50 = 0
  · rw [outsAt2_A V c t h]
    frame_out
    exact layer_rows V c t r j
  · rw [outsAt2_B V c t h]
    frame_out
    exact layer_rows V c t r j

/-- After the last point the second buffer holds the sums of the second layer. -/
theorem last_sums (c : Dev nD) (t : Fin cfg2.N) (ht : t.val % 50 = 49) (j : Fin 1024) :
    (outsAt2 V c t.val t.isLt).2.1 (ix2 0 j) = ∑ n, H V c n j := by
  refine (running_total N_2 (fun n h => (outsAt2 V c n h).2.1 (ix2 0 j))
    (fun t => ∑ r, H V c (rowAt t r) j) (fun h => ?_) (fun n h hB => ?_) t ht).trans (sum_blocks fun n => H V c n j)
  · show (outsAt2 V c (⟨0, h⟩ : Fin cfg2.N).val _).2.1 (ix2 0 j) = _
    rw [outsAt2_A V c ⟨0, h⟩ rfl]
    frame_out
    rw [layer2_sum_step, layer2_sum_start, zero_add]
    simp only [layer_rows]
  · show (outsAt2 V c (⟨n + 1, h⟩ : Fin cfg2.N).val _).2.1 (ix2 0 j) = _
    rw [outsAt2_B V c ⟨n + 1, h⟩ hB]
    frame_out
    rw [layer2_sum_step]
    simp only [layer_rows]
    rfl

/-- After the last point the third buffer holds the sums of the squares of the second layer. -/
theorem last_squares (c : Dev nD) (t : Fin cfg2.N) (ht : t.val % 50 = 49) (j : Fin 1024) :
    (outsAt2 V c t.val t.isLt).2.2 (ix2 0 j) = ∑ n, H V c n j * H V c n j := by
  refine (running_total N_2 (fun n h => (outsAt2 V c n h).2.2 (ix2 0 j))
    (fun t => ∑ r, H V c (rowAt t r) j * H V c (rowAt t r) j) (fun h => ?_) (fun n h hB => ?_) t ht).trans
    (sum_blocks fun n => H V c n j * H V c n j)
  · show (outsAt2 V c (⟨0, h⟩ : Fin cfg2.N).val _).2.2 (ix2 0 j) = _
    rw [outsAt2_A V c ⟨0, h⟩ rfl]
    frame_out
    rw [layer2_square_step, layer2_square_start, zero_add]
    simp only [layer_rows]
  · show (outsAt2 V c (⟨n + 1, h⟩ : Fin cfg2.N).val _).2.2 (ix2 0 j) = _
    rw [outsAt2_B V c ⟨n + 1, h⟩ hB]
    frame_out
    rw [layer2_square_step]
    simp only [layer_rows]
    rfl

/-- After the stage the first result holds the second layer. -/
theorem rows (c : Dev nD) : mat ((dat2 V c).arrAt 5 cfg2.N : Vec Ideal S50000x1024 .f32) = H V c := by
  have hi : ∀ t : Fin cfg2.N, win2_5.index t = ![t.val, 0] := by decide +kernel
  suffices h : (dat2 V c).arrAt 5 cfg2.N = fun y : S50000x1024.Idx => H V c (y 0) (y 1) by rw [h]; rfl
  refine (dat2 V c).arrAt_eq_of_covers 5 _ (by decide +kernel) fun t hf y => ?_
  blk_simp
  rw [after2_5]
  refine (congrArg _ (eq_ix2 y)).trans ((rows_at V c t (y 0) (y 1)).trans ?_)
  refine congrArg₂ (H V c) (Fin.ext ?_) (Fin.ext ?_) <;> blk_simp [hi] <;> rfl

/-- After the stage the second result holds the sums of the second layer. -/
theorem sums (c : Dev nD) : topRow ((dat2 V c).arrAt 6 cfg2.N : Vec Ideal S1x1024 .f32) = fun j => ∑ n, H V c n j := by
  have hi : ∀ t : Fin cfg2.N, win2_6.index t = ![0, 0] := by decide +kernel
  suffices h : (dat2 V c).arrAt 6 cfg2.N = fun y : S1x1024.Idx => (fun j => ∑ n, H V c n j : Fin 1024 → EReal) (y 1) by rw [h]; rfl
  refine (dat2 V c).arrAt_eq_of_covers 6 _ (by decide +kernel) fun t hf y => ?_
  have hy : y = ix2 (0 : Fin 1) (y 1) := (eq_ix2 y).trans (congrArg (fun a : Fin 1 => ix2 a (y 1)) (Subsingleton.elim _ _))
  blk_simp
  rw [after2_6]
  refine (congrArg _ hy).trans ((last_sums V c t ((flush2_6 t).mp hf) (y 1)).trans ?_)
  refine congrArg (fun j => ∑ n, H V c n j : Fin 1024 → EReal) (Fin.ext ?_)
  blk_simp [hi]

/-- After the stage the third result holds the sums of the squares of the second layer. -/
theorem squares (c : Dev nD) : topRow ((dat2 V c).arrAt 7 cfg2.N : Vec Ideal S1x1024 .f32) = fun j => ∑ n, H V c n j * H V c n j := by
  have hi : ∀ t : Fin cfg2.N, win2_7.index t = ![0, 0] := by decide +kernel
  suffices h : (dat2 V c).arrAt 7 cfg2.N = fun y : S1x1024.Idx => (fun j => ∑ n, H V c n j * H V c n j : Fin 1024 → EReal) (y 1) by rw [h]; rfl
  refine (dat2 V c).arrAt_eq_of_covers 7 _ (by decide +kernel) fun t hf y => ?_
  have hy : y = ix2 (0 : Fin 1) (y 1) := (eq_ix2 y).trans (congrArg (fun a : Fin 1 => ix2 a (y 1)) (Subsingleton.elim _ _))
  blk_simp
  rw [after2_7]
  refine (congrArg _ hy).trans ((last_squares V c t ((flush2_7 t).mp hf) (y 1)).trans ?_)
  refine congrArg (fun j => ∑ n, H V c n j * H V c n j : Fin 1024 → EReal) (Fin.ext ?_)
  blk_simp [hi]

end Cert.KernelIdeal.Stage2
-- ==== Proof.Stage3.lean ====
/-
  The fourth stage: it normalises and rectifies the second layer, runs the rest of the gate network on every row, and
  weights the rows of `x`.
-/
module

public import proofs.«01_k».proof.Proof.Gen.KernelIdeal.Frame.Region3
public import proofs.«01_k».proof.Proof.Blocks
public import proofs.«01_k».proof.Proof.Tiles
public import Idealize.ShloMosaic.Lib.Pipeline.ValueKit

@[expose] public section

set_option maxRecDepth 16384

noncomputable section

namespace Cert.KernelIdeal.Stage3

open Cert.KernelIdeal Cert.KernelIdeal.Gen Idealize.ShloMosaic Idealize.ShloMosaic.TcCoe Idealize.ShloMosaic.Tactic
open Idealize.SL.Sem Cert.Pool
open Idealize.ShloMosaic.Pipeline (Dat)
open scoped BigOperators

variable (V : (c : Dev nD) → (b : Ref sig .tc) → Buf (Elt Ideal) ((c : Thread nD τ).loc b))

/-- Block `t` of `main_v7_0` is its rows `1000 t … 1000 t + 999`. -/
theorem block0_eq (c : Dev nD) (t : Fin cfg3.N) :
    mat (iblk3 V c 0 t : Vec Ideal S1000x1024 .f32)
      = fun r => mat (V c main_v7_0 : Vec Ideal S50000x1024 .f32) (rowAt (t.cast N_3) r) := by
  have hi : ∀ t : Fin cfg3.N, win3_0.index t = ![t.val, 0] := by decide +kernel
  funext r k
  unfold mat
  blk_simp [iblk3, hi]
  refine congrArg (V c main_v7_0 : Vec Ideal S50000x1024 .f32) (funext fun a => Fin.ext ?_)
  fin_cases a <;> blk_simp [hi] <;> rfl

/-- Block `t` of `main_arg0` is its rows `1000 t … 1000 t + 999`. -/
theorem block1_eq (c : Dev nD) (t : Fin cfg3.N) :
    mat (iblk3 V c 1 t : Vec Ideal S1000x512 .f32)
      = fun r => mat (V c main_arg0 : Vec Ideal S50000x512 .f32) (rowAt (t.cast N_3) r) := by
  have hi : ∀ t : Fin cfg3.N, win3_1.index t = ![t.val, 0] := by decide +kernel
  funext r k
  unfold mat
  blk_simp [iblk3, hi]
  refine congrArg (V c main_arg0 : Vec Ideal S50000x512 .f32) (funext fun a => Fin.ext ?_)
  fin_cases a <;> blk_simp [hi] <;> rfl

/-- The stage finds `main_v7_1` whole in its block. -/
theorem block2_eq (c : Dev nD) (t : Fin cfg3.N) : (iblk3 V c 2 t : Vec Ideal S1x1024 .f32) = V c main_v7_1 := by
  have hi : ∀ t : Fin cfg3.N, win3_2.index t = ![0, 0] := by decide +kernel
  funext y
  blk_simp [iblk3, hi]
  refine congrArg (V c main_v7_1 : Vec Ideal S1x1024 .f32) (funext fun a => Fin.ext ?_)
  fin_cases a <;> blk_simp [hi] <;> simp

/-- The stage finds `main_v7_2` whole in its block. -/
theorem block3_eq (c : Dev nD) (t : Fin cfg3.N) : (iblk3 V c 3 t : Vec Ideal S1x1024 .f32) = V c main_v7_2 := by
  have hi : ∀ t : Fin cfg3.N, win3_3.index t = ![0, 0] := by decide +kernel
  funext y
  blk_simp [iblk3, hi]
  refine congrArg (V c main_v7_2 : Vec Ideal S1x1024 .f32) (funext fun a => Fin.ext ?_)
  fin_cases a <;> blk_simp [hi] <;> simp

/-- The stage finds `main_v8` whole in its block. -/
theorem block4_eq (c : Dev nD) (t : Fin cfg3.N) : (iblk3 V c 4 t : Vec Ideal S1x1024 .f32) = V c main_v8 := by
  have hi : ∀ t : Fin cfg3.N, win3_4.index t = ![0, 0] := by decide +kernel
  funext y
  blk_simp [iblk3, hi]
  refine congrArg (V c main_v8 : Vec Ideal S1x1024 .f32) (funext fun a => Fin.ext ?_)
  fin_cases a <;> blk_simp [hi] <;> simp

/-- The stage finds `main_v9` whole in its block. -/
theorem block5_eq (c : Dev nD) (t : Fin cfg3.N) : (iblk3 V c 5 t : Vec Ideal S1x1024 .f32) = V c main_v9 := by
  have hi : ∀ t : Fin cfg3.N, win3_5.index t = ![0, 0] := by decide +kernel
  funext y
  blk_simp [iblk3, hi]
  refine congrArg (V c main_v9 : Vec Ideal S1x1024 .f32) (funext fun a => Fin.ext ?_)
  fin_cases a <;> blk_simp [hi] <;> simp

/-- The stage finds `main_v10` whole in its block. -/
theorem block6_eq (c : Dev nD) (t : Fin cfg3.N) : (iblk3 V c 6 t : Vec Ideal S1024x128 .bf16) = V c main_v10 := by
  have hi : ∀ t : Fin cfg3.N, win3_6.index t = ![0, 0] := by decide +kernel
  funext y
  blk_simp [iblk3, hi]
  refine congrArg (V c main_v10 : Vec Ideal S1024x128 .bf16) (funext fun a => Fin.ext ?_)
  fin_cases a <;> blk_simp [hi] <;> simp

/-- The stage finds `main_v11` whole in its block. -/
theorem block7_eq (c : Dev nD) (t : Fin cfg3.N) : (iblk3 V c 7 t : Vec Ideal S1x128 .f32) = V c main_v11 := by
  have hi : ∀ t : Fin cfg3.N, win3_7.index t = ![0, 0] := by decide +kernel
  funext y
  blk_simp [iblk3, hi]
  refine congrArg (V c main_v11 : Vec Ideal S1x128 .f32) (funext fun a => Fin.ext ?_)
  fin_cases a <;> blk_simp [hi] <;> simp

/-- The stage finds `main_v12` whole in its block. -/
theorem block8_eq (c : Dev nD) (t : Fin cfg3.N) : (iblk3 V c 8 t : Vec Ideal S128x128 .bf16) = V c main_v12 := by
  have hi : ∀ t : Fin cfg3.N, win3_8.index t = ![0, 0] := by decide +kernel
  funext y
  blk_simp [iblk3, hi]
  refine congrArg (V c main_v12 : Vec Ideal S128x128 .bf16) (funext fun a => Fin.ext ?_)
  fin_cases a <;> blk_simp [hi] <;> simp

/-- The stage finds `main_v13` whole in its block. -/
theorem block9_eq (c : Dev nD) (t : Fin cfg3.N) : (iblk3 V c 9 t : Vec Ideal S1x128 .f32) = V c main_v13 := by
  have hi : ∀ t : Fin cfg3.N, win3_9.index t = ![0, 0] := by decide +kernel
  funext y
  blk_simp [iblk3, hi]
  refine congrArg (V c main_v13 : Vec Ideal S1x128 .f32) (funext fun a => Fin.ext ?_)
  fin_cases a <;> blk_simp [hi] <;> simp

/-- The stage finds `main_v14` whole in its block. -/
theorem block10_eq (c : Dev nD) (t : Fin cfg3.N) : (iblk3 V c 10 t : Vec Ideal S128x128 .bf16) = V c main_v14 := by
  have hi : ∀ t : Fin cfg3.N, win3_10.index t = ![0, 0] := by decide +kernel
  funext y
  blk_simp [iblk3, hi]
  refine congrArg (V c main_v14 : Vec Ideal S128x128 .bf16) (funext fun a => Fin.ext ?_)
  fin_cases a <;> blk_simp [hi] <;> simp

/-- The stage finds `main_v15` whole in its block. -/
theorem block11_eq (c : Dev nD) (t : Fin cfg3.N) : (iblk3 V c 11 t : Vec Ideal S1x128 .f32) = V c main_v15 := by
  have hi : ∀ t : Fin cfg3.N, win3_11.index t = ![0, 0] := by decide +kernel
  funext y
  blk_simp [iblk3, hi]
  refine congrArg (V c main_v15 : Vec Ideal S1x128 .f32) (funext fun a => Fin.ext ?_)
  fin_cases a <;> blk_simp [hi] <;> simp

/-- The stage finds `main_v16` whole in its block. -/
theorem block12_eq (c : Dev nD) (t : Fin cfg3.N) : (iblk3 V c 12 t : Vec Ideal S1x128 .f32) = V c main_v16 := by
  have hi : ∀ t : Fin cfg3.N, win3_12.index t = ![0, 0] := by decide +kernel
  funext y
  blk_simp [iblk3, hi]
  refine congrArg (V c main_v16 : Vec Ideal S1x128 .f32) (funext fun a => Fin.ext ?_)
  fin_cases a <;> blk_simp [hi] <;> simp

/-- The stage finds `main_v17` whole in its block. -/
theorem block13_eq (c : Dev nD) (t : Fin cfg3.N) : (iblk3 V c 13 t : Vec Ideal S1x1 .f32) = V c main_v17 := by
  have hi : ∀ t : Fin cfg3.N, win3_13.index t = ![0, 0] := by decide +kernel
  funext y
  blk_simp [iblk3, hi]
  refine congrArg (V c main_v17 : Vec Ideal S1x1 .f32) (funext fun a => Fin.ext ?_)
  fin_cases a <;> blk_simp [hi] <;> simp

/-- The normalised second layer of row `n`, on the arrays the stage is given. -/
def act (c : Dev nD) (n : Fin 50000) (k : Fin 1024) : EReal :=
  mat (V c main_v7_0 : Vec Ideal S50000x1024 .f32) n k
      * scale2 (topRow (V c main_v7_1 : Vec Ideal S1x1024 .f32)) (topRow (V c main_v7_2 : Vec Ideal S1x1024 .f32))
        (topRow (V c main_v8 : Vec Ideal S1x1024 .f32)) k
    + shift2 (topRow (V c main_v7_1 : Vec Ideal S1x1024 .f32)) (topRow (V c main_v7_2 : Vec Ideal S1x1024 .f32))
        (topRow (V c main_v8 : Vec Ideal S1x1024 .f32)) (topRow (V c main_v9 : Vec Ideal S1x1024 .f32)) k

/-- The weight of row `n`: the exponential of its gate. -/
def weight (c : Dev nD) (n : Fin 50000) : EReal :=
  Ideal.exp (Ideal.logistic (logit (act V c n) (mat (V c main_v10 : Vec Ideal S1024x128 .bf16))
    (topRow (V c main_v11 : Vec Ideal S1x128 .f32)) (mat (V c main_v12 : Vec Ideal S128x128 .bf16))
    (topRow (V c main_v13 : Vec Ideal S1x128 .f32)) (mat (V c main_v14 : Vec Ideal S128x128 .bf16))
    (topRow (V c main_v15 : Vec Ideal S1x128 .f32)) (topRow (V c main_v16 : Vec Ideal S1x128 .f32))
    (mat (V c main_v17 : Vec Ideal S1x1 .f32) 0 0)))

/-- The gate before its logistic, as the body computes it at point `t`. -/
theorem logit_rows (c : Dev nD) (t : Fin cfg3.N) (r : Fin 1000) :
    k3_pay3 (k3_pay2 (F := Ideal) (iblk3 V c 2 t) (iblk3 V c 3 t) (iblk3 V c 4 t) (iblk3 V c 5 t) (iblk3 V c 0 t) (iblk3 V c 6 t)
        (iblk3 V c 7 t)) (iblk3 V c 8 t) (iblk3 V c 9 t) (iblk3 V c 10 t) (iblk3 V c 11 t) (iblk3 V c 12 t) (ix2 r 0)
      + k3_pay4 (F := Ideal) (iblk3 V c 13 t) (ix2 0 0)
      = logit (act V c (rowAt (t.cast N_3) r)) (mat (V c main_v10 : Vec Ideal S1024x128 .bf16))
        (topRow (V c main_v11 : Vec Ideal S1x128 .f32)) (mat (V c main_v12 : Vec Ideal S128x128 .bf16))
        (topRow (V c main_v13 : Vec Ideal S1x128 .f32)) (mat (V c main_v14 : Vec Ideal S128x128 .bf16))
        (topRow (V c main_v15 : Vec Ideal S1x128 .f32)) (topRow (V c main_v16 : Vec Ideal S1x128 .f32))
        (mat (V c main_v17 : Vec Ideal S1x1 .f32) 0 0) := by
  rw [gate_block, block0_eq, block2_eq, block3_eq, block4_eq, block5_eq, block6_eq, block7_eq, block8_eq, block9_eq,
    block10_eq, block11_eq, block12_eq, block13_eq]
  rfl

/-- After the stage, its result holds in its first 512 columns the rows of `x` times their weights, and in column 512
the weights. -/
theorem entries (c : Dev nD) (i : S50000x640.Idx) :
    (∀ d : Fin 512, (i 1).val = d.val → (dat3 V c).arrAt 14 cfg3.N i
        = mat (V c main_arg0 : Vec Ideal S50000x512 .f32) (i 0) d * weight V c (i 0))
      ∧ ((i 1).val = 512 → (dat3 V c).arrAt 14 cfg3.N i = weight V c (i 0)) := by
  have hi : ∀ t : Fin cfg3.N, win3_14.index t = ![t.val, 0] := by decide +kernel
  refine (dat3 V c).arrAt_forall_of_covers 14 (fun (i : S50000x640.Idx) (v : EReal) =>
    (∀ d : Fin 512, (i 1).val = d.val → v = mat (V c main_arg0 : Vec Ideal S50000x512 .f32) (i 0) d * weight V c (i 0))
      ∧ ((i 1).val = 512 → v = weight V c (i 0))) (by decide +kernel) (fun t hf y => ?_) i
  have h0 : ((win3_14.blk t).view.emb y 0) = rowAt (t.cast N_3) (y 0) := Fin.ext (by blk_simp [hi]; rfl)
  have h1 : ((win3_14.blk t).view.emb y 1).val = (y 1).val := by blk_simp [hi]
  blk_simp
  rw [after3_14]
  frame_out
  rw [hi]
  refine ⟨fun d hd => ?_, fun hd => ?_⟩
  · obtain hy : y = ix2 (y 0) (⟨d.val, by have := d.isLt; omega⟩ : Fin 640) :=
      (eq_ix2 y).trans (congrArg (ix2 (y 0)) (Fin.ext (by simpa using hd)))
    refine (congrArg _ hy).trans ((weighted_block _ _ _ (y 0) d).trans ?_)
    refine (congrArg₂ (· * ·) (congrFun (congrFun (block1_eq V c t) (y 0)) d)
      (congrArg (fun z => Ideal.exp (Ideal.logistic z)) (logit_rows V c t (y 0)))).trans ?_
    exact congrArg (fun n => mat (V c main_arg0 : Vec Ideal S50000x512 .f32) n d * weight V c n) h0.symm
  · obtain hy : y = ix2 (y 0) (⟨512, by omega⟩ : Fin 640) :=
      (eq_ix2 y).trans (congrArg (ix2 (y 0)) (Fin.ext (by simpa using hd)))
    refine (congrArg _ hy).trans ((weight_column _ _ _ (y 0)).trans ?_)
    exact (congrArg (fun z => Ideal.exp (Ideal.logistic z)) (logit_rows V c t (y 0))).trans
      (congrArg (weight V c) h0.symm)

end Cert.KernelIdeal.Stage3
-- ==== Proof.Stage4.lean ====
/-
  The fifth stage: over its fifty blocks of rows it adds up, for every segment, the rows the segment holds.
-/
module

public import proofs.«01_k».proof.Proof.Gen.KernelIdeal.Frame.Region4
public import proofs.«01_k».proof.Proof.Blocks
public import proofs.«01_k».proof.Proof.Tiles
public import Idealize.ShloMosaic.Lib.Pipeline.ValueKit

@[expose] public section

set_option maxRecDepth 16384

noncomputable section

namespace Cert.KernelIdeal.Stage4

open Cert.KernelIdeal Cert.KernelIdeal.Gen Idealize.ShloMosaic Idealize.ShloMosaic.TcCoe Idealize.ShloMosaic.Tactic
open Idealize.SL.Sem Cert.Pool
open Idealize.ShloMosaic.Pipeline (Dat)
open scoped BigOperators

variable (V : (c : Dev nD) → (b : Ref sig .tc) → Buf (Elt Ideal) ((c : Thread nD τ).loc b))

/-- Block `t` of `main_v18` is its rows `1000 t … 1000 t + 999`. -/
theorem block0_eq (c : Dev nD) (t : Fin cfg4.N) :
    mat (iblk4 V c 0 t : Vec Ideal S1000x640 .f32) = fun r => mat (V c main_v18 : Vec Ideal S50000x640 .f32) (rowAt (t.cast N_4) r) := by
  have hi : ∀ t : Fin cfg4.N, win4_0.index t = ![t.val, 0] := by decide +kernel
  funext r k
  unfold mat
  blk_simp [iblk4, hi]
  refine congrArg (V c main_v18 : Vec Ideal S50000x640 .f32) (funext fun a => Fin.ext ?_)
  fin_cases a <;> blk_simp [hi] <;> rfl

/-- Block `t` of `main_v20` is its rows `1000 t … 1000 t + 999`. -/
theorem block1_eq (c : Dev nD) (t : Fin cfg4.N) :
    mat (iblk4 V c 1 t : Vec Ideal S1000x1 .f32) = fun r => mat (V c main_v20 : Vec Ideal S50000x1 .f32) (rowAt (t.cast N_4) r) := by
  have hi : ∀ t : Fin cfg4.N, win4_1.index t = ![t.val, 0] := by decide +kernel
  funext r k
  unfold mat
  blk_simp [iblk4, hi]
  refine congrArg (V c main_v20 : Vec Ideal S50000x1 .f32) (funext fun a => Fin.ext ?_)
  fin_cases a <;> blk_simp [hi] <;> rfl

/-- The sum of column `k` over the rows of segment `s`, on the arrays the stage is given. -/
def pooled (c : Dev nD) (s : Fin 2048) (k : Fin 640) : EReal :=
  ∑ n, one (mat (V c main_v20 : Vec Ideal S50000x1 .f32) n 0 = ((s.val : ℝ) : EReal))
    * mat (V c main_v18 : Vec Ideal S50000x640 .f32) n k

/-- What the body adds at point `t` is the block's rows' part of the pooled sums. -/
theorem pooled_rows (c : Dev nD) (t : Fin cfg4.N) (p : Vec Ideal S2048x640 .f32) (s : Fin 2048) (k : Fin 640) :
    k4_pay2 (iblk4 V c 1 t) p (iblk4 V c 0 t) (ix2 s k)
      = p (ix2 s k) + ∑ r, one (mat (V c main_v20 : Vec Ideal S50000x1 .f32) (rowAt (t.cast N_4) r) 0 = ((s.val : ℝ) : EReal))
          * mat (V c main_v18 : Vec Ideal S50000x640 .f32) (rowAt (t.cast N_4) r) k := by
  rw [pool_step, block0_eq, block1_eq]

/-- After the last point the buffer holds the pooled sums. -/
theorem last_pooled (c : Dev nD) (t : Fin cfg4.N) (ht : t.val % 50 = 49) (s : Fin 2048) (k : Fin 640) :
    outsAt4 V c t.val t.isLt (ix2 s k) = pooled V c s k := by
  refine (running_total N_4 (fun n h => outsAt4 V c n h (ix2 s k))
    (fun t => ∑ r, one (mat (V c main_v20 : Vec Ideal S50000x1 .f32) (rowAt t r) 0 = ((s.val : ℝ) : EReal))
          * mat (V c main_v18 : Vec Ideal S50000x640 .f32) (rowAt t r) k) (fun h => ?_) (fun n h hB => ?_) t ht).trans
    (sum_blocks fun n => one (mat (V c main_v20 : Vec Ideal S50000x1 .f32) n 0 = ((s.val : ℝ) : EReal))
    * mat (V c main_v18 : Vec Ideal S50000x640 .f32) n k)
  · show outsAt4 V c (⟨0, h⟩ : Fin cfg4.N).val _ (ix2 s k) = _
    rw [outsAt4_A V c ⟨0, h⟩ rfl]
    frame_out
    rw [pooled_rows, pool_start, zero_add]
  · show outsAt4 V c (⟨n + 1, h⟩ : Fin cfg4.N).val _ (ix2 s k) = _
    rw [outsAt4_B V c ⟨n + 1, h⟩ hB]
    frame_out
    rw [pooled_rows]
    rfl

/-- After the stage its result holds the pooled sums. -/
theorem sums (c : Dev nD) : mat ((dat4 V c).arrAt 2 cfg4.N : Vec Ideal S2048x640 .f32) = pooled V c := by
  have hi : ∀ t : Fin cfg4.N, win4_2.index t = ![0, 0] := by decide +kernel
  suffices h : (dat4 V c).arrAt 2 cfg4.N = fun y : S2048x640.Idx => pooled V c (y 0) (y 1) by rw [h]; rfl
  refine (dat4 V c).arrAt_eq_of_covers 2 _ (by decide +kernel) fun t hf y => ?_
  blk_simp
  rw [after4_2]
  refine (congrArg _ (eq_ix2 y)).trans ((last_pooled V c t ((flush4_2 t).mp hf) (y 0) (y 1)).trans ?_)
  refine congrArg₂ (pooled V c) (Fin.ext ?_) (Fin.ext ?_) <;> blk_simp [hi] <;> simp

end Cert.KernelIdeal.Stage4
-- ==== Proof.Stage5.lean ====
/-
  The last stage: it divides every segment's pooled sums by the segment's pooled weight.
-/
module

public import proofs.«01_k».proof.Proof.Gen.KernelIdeal.Frame.Region5
public import proofs.«01_k».proof.Proof.Blocks
public import Idealize.ShloMosaic.Lib.Pipeline.ValueKit

@[expose] public section

set_option maxRecDepth 16384

noncomputable section

namespace Cert.KernelIdeal.Stage5

open Cert.KernelIdeal Cert.KernelIdeal.Gen Idealize.ShloMosaic Idealize.ShloMosaic.TcCoe Idealize.ShloMosaic.Tactic
open Idealize.SL.Sem Cert.Pool
open Idealize.ShloMosaic.Pipeline (Dat)
open scoped BigOperators

variable (V : (c : Dev nD) → (b : Ref sig .tc) → Buf (Elt Ideal) ((c : Thread nD τ).loc b))

/-- The stage finds `main_v21` whole in its block. -/
theorem block0_eq (c : Dev nD) (t : Fin cfg5.N) : (iblk5 V c 0 t : Vec Ideal S2048x640 .f32) = V c main_v21 := by
  have hi : ∀ t a, win5_0.index t a = 0 := fun _ _ => rfl
  funext y
  blk_simp [iblk5, hi]
  refine congrArg (V c main_v21 : Vec Ideal S2048x640 .f32) (funext fun a => Fin.ext ?_)
  fin_cases a <;> blk_simp [hi] <;> simp

/-- The quotient the stage computes, on the array it is given. -/
def quotient (c : Dev nD) (s : Fin 2048) (d : Fin 512) : EReal :=
  ratio (mat (V c main_v21 : Vec Ideal S2048x640 .f32) s ⟨d.val, by have := d.isLt; omega⟩)
    (mat (V c main_v21 : Vec Ideal S2048x640 .f32) s ⟨512, by omega⟩)

/-- After the stage its result holds the quotients. -/
theorem quotients (c : Dev nD) : mat ((dat5 V c).arrAt 1 cfg5.N : Vec Ideal S2048x512 .f32) = quotient V c := by
  have hi : ∀ t a, win5_1.index t a = 0 := fun _ _ => rfl
  suffices h : (dat5 V c).arrAt 1 cfg5.N = fun y : S2048x512.Idx => quotient V c (y 0) (y 1) by rw [h]; rfl
  refine (dat5 V c).arrAt_eq_of_covers 1 _ (by decide +kernel) fun t hf y => ?_
  blk_simp
  rw [after5_1]
  frame_out
  rw [block0_eq]
  exact (congrArg _ (eq_ix2 y)).trans ((ratio_block _ (y 0) (y 1)).trans
    (congrArg₂ (quotient V c) (Fin.ext (by blk_simp [hi])) (Fin.ext (by blk_simp [hi]))))

end Cert.KernelIdeal.Stage5
-- ==== Proof.Contents.lean ====
/-
  What the arrays hold between the kernel's stages, as functions of the arrays the kernel is given.
-/
module

public import proofs.«01_k».proof.Proof.Gen.KernelIdeal.Frame.Fold0
public import proofs.«01_k».proof.Proof.Stage0
public import proofs.«01_k».proof.Proof.Stage1
public import proofs.«01_k».proof.Proof.Stage2
public import proofs.«01_k».proof.Proof.Stage3
public import proofs.«01_k».proof.Proof.Stage4
public import proofs.«01_k».proof.Proof.Stage5
public import Idealize.ShloMosaic.Lib.StableHlo.ReadAt

@[expose] public section

set_option maxRecDepth 16384

noncomputable section

namespace Cert.KernelIdeal.Contents

open Cert.KernelIdeal Cert.KernelIdeal.Gen Idealize.ShloMosaic Idealize.ShloMosaic.TcCoe Idealize.ShloMosaic.Tactic
open Idealize.SL.Sem Cert.Pool
open scoped BigOperators

variable (m : (ℓ : Loc nD τ sig) → Buf (Elt Ideal) ℓ) (ρ : Dev nD → PrngReg)

/-- The arrays the kernel is given. -/
def given (c : Dev nD) : Inputs where
  x := mat (m ((c : Thread nD τ).loc main_arg0) : Vec Ideal S50000x512 .f32)
  seg n := (m ((c : Thread nD τ).loc main_arg1) : IVec S50000 32) (ix1 n)
  W1 := mat (m ((c : Thread nD τ).loc main_arg2) : Vec Ideal S512x1536 .f32)
  b1 := vec (m ((c : Thread nD τ).loc main_arg3) : Vec Ideal S1536 .f32)
  g1 := vec (m ((c : Thread nD τ).loc main_arg4) : Vec Ideal S1536 .f32)
  be1 := vec (m ((c : Thread nD τ).loc main_arg5) : Vec Ideal S1536 .f32)
  W2 := mat (m ((c : Thread nD τ).loc main_arg6) : Vec Ideal S1536x1024 .f32)
  b2 := vec (m ((c : Thread nD τ).loc main_arg7) : Vec Ideal S1024 .f32)
  g2 := vec (m ((c : Thread nD τ).loc main_arg8) : Vec Ideal S1024 .f32)
  be2 := vec (m ((c : Thread nD τ).loc main_arg9) : Vec Ideal S1024 .f32)
  W3 := mat (m ((c : Thread nD τ).loc main_arg10) : Vec Ideal S1024x128 .f32)
  b3 := vec (m ((c : Thread nD τ).loc main_arg11) : Vec Ideal S128 .f32)
  W4 := mat (m ((c : Thread nD τ).loc main_arg12) : Vec Ideal S128x128 .f32)
  b4 := vec (m ((c : Thread nD τ).loc main_arg13) : Vec Ideal S128 .f32)
  W5 := mat (m ((c : Thread nD τ).loc main_arg14) : Vec Ideal S128x128 .f32)
  b5 := vec (m ((c : Thread nD τ).loc main_arg15) : Vec Ideal S128 .f32)
  w6 := leftCol (m ((c : Thread nD τ).loc main_arg16) : Vec Ideal S128x1 .f32)
  b6 := (m ((c : Thread nD τ).loc main_arg17) : Vec Ideal S1 .f32) (ix1 0)

/-- The first stage leaves the column products of `x`. -/
theorem products (c : Dev nD) : mat (V2 m ρ c main_v0_0 : Vec Ideal S512x512 .f32) = gram (given m c).x := by
  have h : V2 m ρ c main_v0_0 = (dat0 (V0 m ρ) c).arrAt 1 cfg0.N :=
    (W2_of m ρ c main_v0_0 (by decide)).trans (W1_arr m ρ c 1)
  rw [h]
  exact Stage0.products (V0 m ρ) c

/-- The first stage leaves the column sums of `x`. -/
theorem sums (c : Dev nD) : topRow (V2 m ρ c main_v0_1 : Vec Ideal S1x512 .f32) = colSum (given m c).x := by
  have h : V2 m ρ c main_v0_1 = (dat0 (V0 m ρ) c).arrAt 2 cfg0.N :=
    (W2_of m ρ c main_v0_1 (by decide)).trans (W1_arr m ρ c 2)
  rw [h]
  exact Stage0.sums (V0 m ρ) c

/-- The second stage is given the first scale as a row. -/
theorem row_g1 (c : Dev nD) : topRow (V2 m ρ c main_v2 : Vec Ideal S1x1536 .f32) = (given m c).g1 := by
  funext j
  show StableHlo.after hostOps1 (W1 m ρ c) (Proc.devRef .tc main_v2) (ix2 0 j) = _
  after_reads_at
  exact congrFun (W1_args m ρ c main_arg4 (by decide)) _

/-- The second stage is given the first shift as a row. -/
theorem row_be1 (c : Dev nD) : topRow (V2 m ρ c main_v3 : Vec Ideal S1x1536 .f32) = (given m c).be1 := by
  funext j
  show StableHlo.after hostOps1 (W1 m ρ c) (Proc.devRef .tc main_v3) (ix2 0 j) = _
  after_reads_at
  exact congrFun (W1_args m ρ c main_arg5 (by decide)) _

/-- Before stage 2 argument `W1` is as given. -/
theorem W1_2 (c : Dev nD) : mat (V2 m ρ c main_arg2 : Vec Ideal S512x1536 .f32) = (given m c).W1 :=
  congrArg mat (W2_args m ρ c main_arg2 (by decide))

/-- The second stage leaves the folded weights. -/
theorem weights (c : Dev nD) : mat (V4 m ρ c main_v4_0 : Vec Ideal S512x1536 .bf16)
    = weight1 (gram (given m c).x) (colSum (given m c).x) (given m c).W1 (given m c).g1 := by
  have h : V4 m ρ c main_v4_0 = (dat1 (V2 m ρ) c).arrAt 6 cfg1.N :=
    (W4_of m ρ c main_v4_0 (by decide)).trans (W3_arr m ρ c 6)
  rw [h, Stage1.weights, Stage1.C, Stage1.s, Stage1.W, Stage1.g, products, sums, W1_2, row_g1]

/-- The second stage leaves the folded bias. -/
theorem biases (c : Dev nD) : topRow (V4 m ρ c main_v4_1 : Vec Ideal S1x1536 .f32)
    = bias1 (gram (given m c).x) (colSum (given m c).x) (given m c).W1 (given m c).g1 (given m c).be1 := by
  have h : V4 m ρ c main_v4_1 = (dat1 (V2 m ρ) c).arrAt 7 cfg1.N :=
    (W4_of m ρ c main_v4_1 (by decide)).trans (W3_arr m ρ c 7)
  rw [h, Stage1.biases, Stage1.C, Stage1.s, Stage1.W, Stage1.g, Stage1.be, products, sums, W1_2, row_g1, row_be1]

/-- The third stage is given the second layer's weights. -/
theorem mat_W2 (c : Dev nD) : mat (V4 m ρ c main_v5 : Vec Ideal S1536x1024 .bf16) = (given m c).W2 := by
  funext i j
  show StableHlo.after hostOps2 (W3 m ρ c) (Proc.devRef .tc main_v5) (ix2 i j) = _
  after_reads_at
  exact congrFun (W3_args m ρ c main_arg6 (by decide)) _

/-- The third stage is given the second bias as a row. -/
theorem row_b2 (c : Dev nD) : topRow (V4 m ρ c main_v6 : Vec Ideal S1x1024 .f32) = (given m c).b2 := by
  funext j
  show StableHlo.after hostOps2 (W3 m ρ c) (Proc.devRef .tc main_v6) (ix2 0 j) = _
  after_reads_at
  exact congrFun (W3_args m ρ c main_arg7 (by decide)) _

/-- Before stage 3 argument `x` is as given. -/
theorem x_4 (c : Dev nD) : mat (V4 m ρ c main_arg0 : Vec Ideal S50000x512 .f32) = (given m c).x :=
  congrArg mat (W4_args m ρ c main_arg0 (by decide))

/-- The second layer the third stage computes is the kernel's. -/
theorem layer_eq (c : Dev nD) : Stage2.H (V4 m ρ) c = Kernel.layer2 (given m c) := by
  funext n
  rw [Stage2.H, weights, biases, mat_W2, row_b2, x_4]
  rfl

/-- The third stage leaves the second layer. -/
theorem layer (c : Dev nD) : mat (V6 m ρ c main_v7_0 : Vec Ideal S50000x1024 .f32) = Kernel.layer2 (given m c) := by
  have h : V6 m ρ c main_v7_0 = (dat2 (V4 m ρ) c).arrAt 5 cfg2.N :=
    (W6_of m ρ c main_v7_0 (by decide)).trans (W5_arr m ρ c 5)
  rw [h, Stage2.rows, layer_eq]

/-- The third stage leaves the sums of the second layer. -/
theorem layer_sums (c : Dev nD) : topRow (V6 m ρ c main_v7_1 : Vec Ideal S1x1024 .f32) = Kernel.sums (given m c) := by
  have h : V6 m ρ c main_v7_1 = (dat2 (V4 m ρ) c).arrAt 6 cfg2.N :=
    (W6_of m ρ c main_v7_1 (by decide)).trans (W5_arr m ρ c 6)
  rw [h, Stage2.sums, layer_eq]
  rfl

/-- The third stage leaves the sums of the squares of the second layer. -/
theorem layer_squares (c : Dev nD) : topRow (V6 m ρ c main_v7_2 : Vec Ideal S1x1024 .f32) = Kernel.squares (given m c) := by
  have h : V6 m ρ c main_v7_2 = (dat2 (V4 m ρ) c).arrAt 7 cfg2.N :=
    (W6_of m ρ c main_v7_2 (by decide)).trans (W5_arr m ρ c 7)
  rw [h, Stage2.squares, layer_eq]
  rfl

/-- Before stage 4 argument `x` is as given. -/
theorem x_6 (c : Dev nD) : mat (V6 m ρ c main_arg0 : Vec Ideal S50000x512 .f32) = (given m c).x :=
  congrArg mat (W6_args m ρ c main_arg0 (by decide))

/-- The fourth stage is given the second scale as a row. -/
theorem row_g2 (c : Dev nD) : topRow (V6 m ρ c main_v8 : Vec Ideal S1x1024 .f32) = (given m c).g2 := by
  funext j
  show StableHlo.after hostOps3 (W5 m ρ c) (Proc.devRef .tc main_v8) (ix2 0 j) = _
  after_reads_at
  exact congrFun (W5_args m ρ c main_arg8 (by decide)) _

/-- The fourth stage is given the second shift as a row. -/
theorem row_be2 (c : Dev nD) : topRow (V6 m ρ c main_v9 : Vec Ideal S1x1024 .f32) = (given m c).be2 := by
  funext j
  show StableHlo.after hostOps3 (W5 m ρ c) (Proc.devRef .tc main_v9) (ix2 0 j) = _
  after_reads_at
  exact congrFun (W5_args m ρ c main_arg9 (by decide)) _

/-- The fourth stage is given the third bias as a row. -/
theorem row_b3 (c : Dev nD) : topRow (V6 m ρ c main_v11 : Vec Ideal S1x128 .f32) = (given m c).b3 := by
  funext j
  show StableHlo.after hostOps3 (W5 m ρ c) (Proc.devRef .tc main_v11) (ix2 0 j) = _
  after_reads_at
  exact congrFun (W5_args m ρ c main_arg11 (by decide)) _

/-- The fourth stage is given the fourth bias as a row. -/
theorem row_b4 (c : Dev nD) : topRow (V6 m ρ c main_v13 : Vec Ideal S1x128 .f32) = (given m c).b4 := by
  funext j
  show StableHlo.after hostOps3 (W5 m ρ c) (Proc.devRef .tc main_v13) (ix2 0 j) = _
  after_reads_at
  exact congrFun (W5_args m ρ c main_arg13 (by decide)) _

/-- The fourth stage is given the fifth bias as a row. -/
theorem row_b5 (c : Dev nD) : topRow (V6 m ρ c main_v15 : Vec Ideal S1x128 .f32) = (given m c).b5 := by
  funext j
  show StableHlo.after hostOps3 (W5 m ρ c) (Proc.devRef .tc main_v15) (ix2 0 j) = _
  after_reads_at
  exact congrFun (W5_args m ρ c main_arg15 (by decide)) _

/-- The fourth stage is given the last layer's weights as a row. -/
theorem row_w6 (c : Dev nD) : topRow (V6 m ρ c main_v16 : Vec Ideal S1x128 .f32) = (given m c).w6 := by
  funext j
  show StableHlo.after hostOps3 (W5 m ρ c) (Proc.devRef .tc main_v16) (ix2 0 j) = _
  after_reads_at
  exact congrFun (W5_args m ρ c main_arg16 (by decide)) _

/-- The fourth stage is given the third layer's weights. -/
theorem mat_W3 (c : Dev nD) : mat (V6 m ρ c main_v10 : Vec Ideal S1024x128 .bf16) = (given m c).W3 := by
  funext i j
  show StableHlo.after hostOps3 (W5 m ρ c) (Proc.devRef .tc main_v10) (ix2 i j) = _
  after_reads_at
  exact congrFun (W5_args m ρ c main_arg10 (by decide)) _

/-- The fourth stage is given the fourth layer's weights. -/
theorem mat_W4 (c : Dev nD) : mat (V6 m ρ c main_v12 : Vec Ideal S128x128 .bf16) = (given m c).W4 := by
  funext i j
  show StableHlo.after hostOps3 (W5 m ρ c) (Proc.devRef .tc main_v12) (ix2 i j) = _
  after_reads_at
  exact congrFun (W5_args m ρ c main_arg12 (by decide)) _

/-- The fourth stage is given the fifth layer's weights. -/
theorem mat_W5 (c : Dev nD) : mat (V6 m ρ c main_v14 : Vec Ideal S128x128 .bf16) = (given m c).W5 := by
  funext i j
  show StableHlo.after hostOps3 (W5 m ρ c) (Proc.devRef .tc main_v14) (ix2 i j) = _
  after_reads_at
  exact congrFun (W5_args m ρ c main_arg14 (by decide)) _

/-- The fourth stage is given the last bias. -/
theorem entry_b6 (c : Dev nD) : mat (V6 m ρ c main_v17 : Vec Ideal S1x1 .f32) 0 0 = (given m c).b6 := by
  show StableHlo.after hostOps3 (W5 m ρ c) (Proc.devRef .tc main_v17) (ix2 0 0) = _
  after_reads_at
  exact congrFun (W5_args m ρ c main_arg17 (by decide)) _

/-- The weights the fourth stage computes are the kernel's. -/
theorem weight_eq (c : Dev nD) : Stage3.weight (V6 m ρ) c = Kernel.weight (given m c) := by
  funext n
  have h : Stage3.act (V6 m ρ) c n = Kernel.act (given m c) n := by
    funext k
    rw [Stage3.act, layer, layer_sums, layer_squares, row_g2, row_be2]
    rfl
  rw [Stage3.weight, h, mat_W3, row_b3, mat_W4, row_b4, mat_W5, row_b5, row_w6, entry_b6]
  rfl

/-- The fourth stage leaves in its first 512 columns the weighted rows of `x`. -/
theorem weighted (c : Dev nD) (n : Fin 50000) (d : Fin 512) :
    mat (V8 m ρ c main_v18 : Vec Ideal S50000x640 .f32) n ⟨d.val, by have := d.isLt; omega⟩
      = (given m c).x n d * Kernel.weight (given m c) n := by
  have h : V8 m ρ c main_v18 = (dat3 (V6 m ρ) c).arrAt 14 cfg3.N :=
    (W8_of m ρ c main_v18 (by decide)).trans (W7_arr m ρ c 14)
  rw [h, ← weight_eq, ← x_6 m ρ]
  exact (Stage3.entries (V6 m ρ) c (ix2 n ⟨d.val, by have := d.isLt; omega⟩)).1 d rfl

/-- The fourth stage leaves in column 512 the weights. -/
theorem weight_column (c : Dev nD) (n : Fin 50000) :
    mat (V8 m ρ c main_v18 : Vec Ideal S50000x640 .f32) n ⟨512, by omega⟩ = Kernel.weight (given m c) n := by
  have h : V8 m ρ c main_v18 = (dat3 (V6 m ρ) c).arrAt 14 cfg3.N :=
    (W8_of m ρ c main_v18 (by decide)).trans (W7_arr m ρ c 14)
  rw [h, ← weight_eq]
  exact (Stage3.entries (V6 m ρ) c (ix2 n ⟨512, by omega⟩)).2 rfl

/-- The fifth stage is given the segment numbers as real numbers. -/
theorem segments (c : Dev nD) (n : Fin 50000) :
    mat (V8 m ρ c main_v20 : Vec Ideal S50000x1 .f32) n 0 = ((((given m c).seg n).toInt : ℝ) : EReal) := by
  show StableHlo.after hostOps4 (W7 m ρ c) (Proc.devRef .tc main_v20) (ix2 n 0) = _
  after_reads_at
  rw [W7_args m ρ c main_arg1 (by decide)]
  rfl

/-- The kernel's result. -/
theorem result (c : Dev nD) : mat (W10 m ρ c (Proc.devRef .tc main_v22) : Vec Ideal S2048x512 .f32) = Kernel.result (given m c) := by
  have h : W10 m ρ c (Proc.devRef .tc main_v22) = (dat5 (V9 m ρ) c).arrAt 1 cfg5.N := W10_arr m ρ c 1
  have h' : V9 m ρ c main_v21 = (dat4 (V8 m ρ) c).arrAt 2 cfg4.N := W9_arr m ρ c 2
  rw [h, Stage5.quotients]
  funext s d
  rw [Stage5.quotient, h', Stage4.sums]
  exact congrArg₂ ratio (Finset.sum_congr rfl fun n _ => by rw [segments, weighted])
    (Finset.sum_congr rfl fun n _ => by rw [segments, weight_column])

end Cert.KernelIdeal.Contents
-- ==== Proof.RefFormulas.lean ====
/-
  The formulas of the reference over the extended reals: the network with its two batch normalisations written out,
  and the softmax of each segment taken with the segment's largest gate subtracted.
-/
module

public import proofs.«01_k».proof.Proof.Formulas

@[expose] public section

noncomputable section

namespace Cert.Pool.Reference

open Idealize.ShloMosaic
open scoped BigOperators

/-- The mean of each column. -/
def mean {R K : ℕ} (X : Fin R → Fin K → EReal) (j : Fin K) : EReal := Ideal.div (∑ n, X n j) count

/-- The variance of each column. -/
def variance {R K : ℕ} (X : Fin R → Fin K → EReal) (j : Fin K) : EReal :=
  Ideal.div (∑ n, (X n j - mean X j) * (X n j - mean X j)) count

/-- The columns of `X` normalised, scaled by `g` and shifted by `be`. -/
def normal {R K : ℕ} (X : Fin R → Fin K → EReal) (g be : Fin K → EReal) (n : Fin R) (j : Fin K) : EReal :=
  Ideal.div (X n j - mean X j) (Ideal.sqrt (variance X j + small)) * g j + be j

/-- The leaky rectifier as the reference writes it, its first branch taken at zero too. -/
def leak (y : EReal) : EReal := if 0 ≤ y then y else slope * y

/-- The last four layers of the gate network on one row of normalised activations. -/
def logit {N M : ℕ} (a : Fin N → EReal) (W3 : Fin N → Fin M → EReal) (b3 : Fin M → EReal) (W4 : Fin M → Fin M → EReal)
    (b4 : Fin M → EReal) (W5 : Fin M → Fin M → EReal) (b5 w6 : Fin M → EReal) (b6 : EReal) : EReal :=
  ∑ l, leak (dense (fun k => leak (dense (fun k => leak (dense (fun k => leak (a k)) W3 b3 k)) W4 b4 k)) W5 b5 l) * w6 l + b6

/-- A negative segment number counts from the end. -/
def wrapped (b : BitVec 32) : BitVec 32 := if b.toInt < 0 then b + 2048#32 else b

/-- The row of a table of segments that a segment number reads: wrapped, then brought inside the table. -/
def rowOf (b : BitVec 32) : Fin 2048 := ⟨min (wrapped b).toInt.toNat 2047, by omega⟩

/-- The sum of `f` over the rows of segment `s`. -/
def segmentSum (seg : Fin 50000 → BitVec 32) (f : Fin 50000 → EReal) (s : Fin 2048) : EReal :=
  ∑ n, if (seg n).toInt = (s.val : ℤ) then f n else 0

/-- The largest of `f` over the rows of segment `s`, `⊥` where it has none. -/
def segmentMax (seg : Fin 50000 → BitVec 32) (f : Fin 50000 → EReal) (s : Fin 2048) : EReal :=
  Finset.univ.fold max ⊥ fun n => if seg n = BitVec.ofNat 32 s.val then f n else ⊥

variable (a : Inputs)

/-- The first layer. -/
def layer1 (n : Fin 50000) : Fin 1536 → EReal := dense (a.x n) a.W1 a.b1

/-- The second layer. -/
def layer2 (n : Fin 50000) : Fin 1024 → EReal := dense (fun k => leak (normal (layer1 a) a.g1 a.be1 n k)) a.W2 a.b2

/-- The second layer, normalised. -/
def act : Fin 50000 → Fin 1024 → EReal := normal (layer2 a) a.g2 a.be2

/-- The gate of row `n`. -/
def gate (n : Fin 50000) : EReal :=
  Ideal.div 1 (1 + Ideal.exp (-logit (act a n) a.W3 a.b3 a.W4 a.b4 a.W5 a.b5 a.w6 a.b6))

/-- The exponential of row `n`'s gate less the largest gate of its segment, for gates `f`. -/
def shifted (seg : Fin 50000 → BitVec 32) (f : Fin 50000 → EReal) (n : Fin 50000) : EReal :=
  Ideal.exp (f n - segmentMax seg f (rowOf (seg n)))

/-- A segment's sum of the exponentials `e`, an empty segment's replaced by `1`. -/
def total (seg : Fin 50000 → BitVec 32) (e : Fin 50000 → EReal) (s : Fin 2048) : EReal :=
  if segmentSum seg e s = 0 then 1 else segmentSum seg e s

/-- The softmax weight of row `n` within its segment, for exponentials `e`. -/
def share (seg : Fin 50000 → BitVec 32) (e : Fin 50000 → EReal) (n : Fin 50000) : EReal :=
  Ideal.div (e n) (total seg e (rowOf (seg n)))

/-- The reference's result for segment `s`. -/
def result (s : Fin 2048) (d : Fin 512) : EReal :=
  segmentSum a.seg (fun n => a.x n d * share a.seg (shifted a.seg (gate a)) n) s

end Cert.Pool.Reference
-- ==== Proof.Numbers.lean ====
/-
  The numbers that the programs' float words stand for.
-/
module

public import proofs.«01_k».proof.Proof.RefFormulas
public import Idealize.ShloMosaic.Lib.IdealHost

@[expose] public section

noncomputable section

namespace Cert.Pool

open Idealize.ShloMosaic

/-- The number of rows is 50000. -/
theorem count_eq : count = ((50000 : ℝ) : EReal) := by
  simp [count, Ideal.ofBits, Ideal.ieee, -EReal.coe_mul]
  norm_num

/-- The small number is a positive real. -/
theorem small_eq : small = ((10995116 / 1099511627776 : ℝ) : EReal) := by
  simp [small, Ideal.ofBits, Ideal.ieee, -EReal.coe_mul]
  norm_num

/-- The slope is a real. -/
theorem slope_eq : slope = ((10737418 / 1073741824 : ℝ) : EReal) := by
  simp [slope, Ideal.ofBits, Ideal.ieee, -EReal.coe_mul]
  norm_num

/-- The number of rows less no degrees of freedom. -/
theorem count_sub_zero : count - FloatOps.sitofp (F := Ideal) (w := 32) .f32 0#32 = count := by
  show count - (((0#32).toInt : ℝ) : EReal) = count
  simp

theorem count_pos : 0 < count := by
  rw [count_eq]
  exact_mod_cast (by norm_num : (0 : ℝ) < 50000)

/-- The two ways of writing the rectifier agree: at zero both give zero. -/
theorem leak_eq (y : EReal) : Reference.leak y = leak y := by
  unfold Reference.leak leak
  rcases lt_trichotomy 0 y with h | h | h
  · rw [if_pos h, if_pos h.le]
  · subst h; simp
  · rw [if_neg (not_lt.2 h.le), if_neg (not_le.2 h)]

end Cert.Pool
-- ==== Proof.RefFront.lean ====
/-
  What the reference's network computes, up to the gate, in the formulas of `Proof.RefFormulas`.
-/
module

public import proofs.«01_k».proof.Proof.Gen.ReferenceIdeal.Read
public import proofs.«01_k».proof.Proof.Numbers

@[expose] public section

noncomputable section

namespace Cert.ReferenceIdeal.Front

open Cert.ReferenceIdeal Cert.ReferenceIdeal.Gen Cert.ReferenceIdeal.Read Idealize.ShloMosaic Cert.Pool
open scoped BigOperators

/-- A float array of shape `s`. -/
abbrev Arr (s : Shape) : Type := (⟨s, .f32⟩ : BufTy).Contents (Elt Ideal)

variable (x0 : Arr S50000x512) (x2 : Arr S512x1536) (x3 x4 x5 : Arr S1536) (x6 : Arr S1536x1024) (x7 x8 x9 : Arr S1024)

/-- The first layer. -/
theorem layer1 : mat (val_main_v3 (F := Ideal) x0 x2 x3) = fun n => dense (mat x0 n) (mat x2) (vec x3) := by
  funext n j
  show val_main_v3 (F := Ideal) x0 x2 x3 (ix2 n j) = _
  pointwise [val_main_v3, val_main_v2, val_main_v1, val_main_v0, dense, mat, vec]

/-- The first layer's mean. -/
theorem mean1 : vec (val_main_v6 (F := Ideal) x0 x2 x3) = Reference.mean (mat (val_main_v3 (F := Ideal) x0 x2 x3)) := by
  funext j
  show val_main_v6 (F := Ideal) x0 x2 x3 (ix1 j) = _
  unfold val_main_v6 val_main_v4
  generalize val_main_v3 (F := Ideal) x0 x2 x3 = y
  pointwise [val_main_v5, val_main_cst, val_main_cst_0, Reference.mean, mat]
  rfl

/-- The first layer's variance. -/
theorem variance1 :
    vec (val_main_v7 (F := Ideal) x0 x2 x3) = Reference.variance (mat (val_main_v3 (F := Ideal) x0 x2 x3)) := by
  funext j
  show val_main_v7 (F := Ideal) x0 x2 x3 (ix1 j) = _
  unfold val_main_v7 val_main_call0_v11 val_main_call0_v9 val_main_call0_v6 val_main_call0_v5 val_main_call0_v4
    val_main_call0_v3 val_main_call0_v1 val_main_call0_v0
  generalize val_main_v3 (F := Ideal) x0 x2 x3 = y
  pointwise [val_main_call0_v12, val_main_call0_v8, val_main_call0_cst_1, val_main_call0_v7, val_main_c,
    val_main_call0_cst_3, val_main_call0_call0_v1, val_main_call0_call0_v0, val_main_call0_cst_4, val_main_call0_v10,
    val_main_call0_v2, val_main_call0_cst_0, val_main_call0_cst_2, val_main_call0_cst,
    Reference.variance, Reference.mean, mat]
  show (if 0 < Pool.count - FloatOps.sitofp (F := Ideal) .f32 0#32 then
    Ideal.div _ (Pool.count - FloatOps.sitofp (F := Ideal) .f32 0#32) else _) = _
  rw [count_sub_zero, if_pos count_pos]
  rfl

/-- The first normalisation. -/
theorem normal1 : mat (val_main_v22 (F := Ideal) x0 x2 x3 x4 x5)
    = Reference.normal (mat (val_main_v3 (F := Ideal) x0 x2 x3)) (vec x4) (vec x5) := by
  have hm := mean1 x0 x2 x3
  have hv := variance1 x0 x2 x3
  funext n j
  show val_main_v22 (F := Ideal) x0 x2 x3 x4 x5 (ix2 n j) = _
  unfold val_main_v22 val_main_v19 val_main_v16 val_main_v15 val_main_v14 val_main_v13 val_main_v12 val_main_v10
    val_main_v9 val_main_v8 Reference.normal
  rw [← hm, ← hv]
  generalize val_main_v3 (F := Ideal) x0 x2 x3 = y
  generalize val_main_v6 (F := Ideal) x0 x2 x3 = u
  generalize val_main_v7 (F := Ideal) x0 x2 x3 = w
  pointwise [val_main_v21, val_main_v20, val_main_v18, val_main_v17, val_main_v11, val_main_cst_1, mat, vec]
  rfl

/-- The second layer. -/
theorem layer2 : mat (val_main_v27 (F := Ideal) x0 x2 x3 x4 x5 x6 x7)
    = fun n => dense (fun k => Reference.leak (mat (val_main_v22 (F := Ideal) x0 x2 x3 x4 x5) n k)) (mat x6) (vec x7) := by
  funext n j
  show val_main_v27 (F := Ideal) x0 x2 x3 x4 x5 x6 x7 (ix2 n j) = _
  unfold val_main_v27 val_main_v24 val_main_v23 val_main_call1_v1 val_main_call1_v4
  generalize val_main_v22 (F := Ideal) x0 x2 x3 x4 x5 = y
  pointwise [val_main_v26, val_main_v25, val_main_call1_v0, val_main_call1_v3, val_main_call1_v2, val_main_call1_cst,
    val_main_cst_2, dense, Reference.leak, mat, vec]
  rfl

/-- The second layer's mean. -/
theorem mean2 : vec (val_main_v30 (F := Ideal) x0 x2 x3 x4 x5 x6 x7)
    = Reference.mean (mat (val_main_v27 (F := Ideal) x0 x2 x3 x4 x5 x6 x7)) := by
  funext j
  show val_main_v30 (F := Ideal) x0 x2 x3 x4 x5 x6 x7 (ix1 j) = _
  unfold val_main_v30 val_main_v28
  generalize val_main_v27 (F := Ideal) x0 x2 x3 x4 x5 x6 x7 = y
  pointwise [val_main_v29, val_main_cst_3, val_main_cst_4, Reference.mean, mat]
  rfl

/-- The second layer's variance. -/
theorem variance2 : vec (val_main_v31 (F := Ideal) x0 x2 x3 x4 x5 x6 x7)
    = Reference.variance (mat (val_main_v27 (F := Ideal) x0 x2 x3 x4 x5 x6 x7)) := by
  funext j
  show val_main_v31 (F := Ideal) x0 x2 x3 x4 x5 x6 x7 (ix1 j) = _
  unfold val_main_v31 val_main_call2_v11 val_main_call2_v9 val_main_call2_v6 val_main_call2_v5 val_main_call2_v4
    val_main_call2_v3 val_main_call2_v1 val_main_call2_v0
  generalize val_main_v27 (F := Ideal) x0 x2 x3 x4 x5 x6 x7 = y
  pointwise [val_main_call2_v12, val_main_call2_v8, val_main_call2_cst_1, val_main_call2_v7, val_main_c_5,
    val_main_call2_cst_3, val_main_call2_call0_v1, val_main_call2_call0_v0, val_main_call2_cst_4, val_main_call2_v10,
    val_main_call2_v2, val_main_call2_cst_0, val_main_call2_cst_2, val_main_call2_cst,
    Reference.variance, Reference.mean, mat]
  show (if 0 < Pool.count - FloatOps.sitofp (F := Ideal) .f32 0#32 then
    Ideal.div _ (Pool.count - FloatOps.sitofp (F := Ideal) .f32 0#32) else _) = _
  rw [count_sub_zero, if_pos count_pos]
  rfl

/-- The second normalisation. -/
theorem normal2 : mat (val_main_v46 (F := Ideal) x0 x2 x3 x4 x5 x6 x7 x8 x9)
    = Reference.normal (mat (val_main_v27 (F := Ideal) x0 x2 x3 x4 x5 x6 x7)) (vec x8) (vec x9) := by
  have hm := mean2 x0 x2 x3 x4 x5 x6 x7
  have hv := variance2 x0 x2 x3 x4 x5 x6 x7
  funext n j
  show val_main_v46 (F := Ideal) x0 x2 x3 x4 x5 x6 x7 x8 x9 (ix2 n j) = _
  unfold val_main_v46 val_main_v43 val_main_v40 val_main_v39 val_main_v38 val_main_v37 val_main_v36 val_main_v34
    val_main_v33 val_main_v32 Reference.normal
  rw [← hm, ← hv]
  generalize val_main_v27 (F := Ideal) x0 x2 x3 x4 x5 x6 x7 = y
  generalize val_main_v30 (F := Ideal) x0 x2 x3 x4 x5 x6 x7 = u
  generalize val_main_v31 (F := Ideal) x0 x2 x3 x4 x5 x6 x7 = w
  pointwise [val_main_v45, val_main_v44, val_main_v42, val_main_v41, val_main_v35, val_main_cst_6, mat, vec]
  rfl

variable (x10 : Arr S1024x128) (x11 : Arr S128) (x12 : Arr S128x128) (x13 : Arr S128) (x14 : Arr S128x128)
  (x15 : Arr S128) (x16 : Arr S128x1) (x17 : Arr S1)

/-- The third layer. -/
theorem layer3 : mat (val_main_v51 (F := Ideal) x0 x2 x3 x4 x5 x6 x7 x8 x9 x10 x11)
    = fun n => dense (fun k => Reference.leak (mat (val_main_v46 (F := Ideal) x0 x2 x3 x4 x5 x6 x7 x8 x9) n k))
        (mat x10) (vec x11) := by
  funext n j
  show val_main_v51 (F := Ideal) x0 x2 x3 x4 x5 x6 x7 x8 x9 x10 x11 (ix2 n j) = _
  unfold val_main_v51 val_main_v48 val_main_v47 val_main_call3_v1 val_main_call3_v4
  generalize val_main_v46 (F := Ideal) x0 x2 x3 x4 x5 x6 x7 x8 x9 = y
  pointwise [val_main_v50, val_main_v49, val_main_call3_v0, val_main_call3_v3, val_main_call3_v2, val_main_call3_cst,
    val_main_cst_7, dense, Reference.leak, mat, vec]
  rfl

/-- The fourth layer. -/
theorem layer4 : mat (val_main_v56 (F := Ideal) x0 x2 x3 x4 x5 x6 x7 x8 x9 x10 x11 x12 x13)
    = fun n => dense (fun k => Reference.leak (mat (val_main_v51 (F := Ideal) x0 x2 x3 x4 x5 x6 x7 x8 x9 x10 x11) n k))
        (mat x12) (vec x13) := by
  funext n j
  show val_main_v56 (F := Ideal) x0 x2 x3 x4 x5 x6 x7 x8 x9 x10 x11 x12 x13 (ix2 n j) = _
  unfold val_main_v56 val_main_v53 val_main_v52 val_main_call4_v1 val_main_call4_v4
  generalize val_main_v51 (F := Ideal) x0 x2 x3 x4 x5 x6 x7 x8 x9 x10 x11 = y
  pointwise [val_main_v55, val_main_v54, val_main_call4_v0, val_main_call4_v3, val_main_call4_v2, val_main_call4_cst,
    val_main_cst_8, dense, Reference.leak, mat, vec]
  rfl

/-- The fifth layer. -/
theorem layer5 : mat (val_main_v61 (F := Ideal) x0 x2 x3 x4 x5 x6 x7 x8 x9 x10 x11 x12 x13 x14 x15)
    = fun n => dense (fun k => Reference.leak
          (mat (val_main_v56 (F := Ideal) x0 x2 x3 x4 x5 x6 x7 x8 x9 x10 x11 x12 x13) n k)) (mat x14) (vec x15) := by
  funext n j
  show val_main_v61 (F := Ideal) x0 x2 x3 x4 x5 x6 x7 x8 x9 x10 x11 x12 x13 x14 x15 (ix2 n j) = _
  unfold val_main_v61 val_main_v58 val_main_v57 val_main_call5_v1 val_main_call5_v4
  generalize val_main_v56 (F := Ideal) x0 x2 x3 x4 x5 x6 x7 x8 x9 x10 x11 x12 x13 = y
  pointwise [val_main_v60, val_main_v59, val_main_call5_v0, val_main_call5_v3, val_main_call5_v2, val_main_call5_cst,
    val_main_cst_9, dense, Reference.leak, mat, vec]
  rfl

/-- The gate, from the fifth layer. -/
theorem gate5 (n : Fin 50000) :
    val_main_v72 (F := Ideal) x0 x2 x3 x4 x5 x6 x7 x8 x9 x10 x11 x12 x13 x14 x15 x16 x17 (ix2 n 0)
      = Ideal.div 1 (1 + Ideal.exp (-(∑ l, Reference.leak
          (mat (val_main_v61 (F := Ideal) x0 x2 x3 x4 x5 x6 x7 x8 x9 x10 x11 x12 x13 x14 x15) n l) * leftCol x16 l
          + x17 (ix1 0)))) := by
  unfold val_main_v72 val_main_v70 val_main_v68 val_main_v67 val_main_v66 val_main_v63 val_main_v62 val_main_call6_v1
    val_main_call6_v4
  generalize val_main_v61 (F := Ideal) x0 x2 x3 x4 x5 x6 x7 x8 x9 x10 x11 x12 x13 x14 x15 = y
  pointwise [val_main_v71, val_main_cst_12, val_main_v69, val_main_cst_11, val_main_v65, val_main_v64,
    val_main_call6_v0, val_main_call6_v3, val_main_call6_v2, val_main_call6_cst, val_main_cst_10, Reference.leak,
    mat, leftCol, Ideal.ofBits_one_f32]
  rfl

/-- The arrays the reference is given, as functions of their coordinates. -/
def inputs (x1 : (⟨S50000, .i32⟩ : BufTy).Contents (Elt Ideal)) : Inputs where
  x := mat x0
  seg n := x1 (ix1 n)
  W1 := mat x2
  b1 := vec x3
  g1 := vec x4
  be1 := vec x5
  W2 := mat x6
  b2 := vec x7
  g2 := vec x8
  be2 := vec x9
  W3 := mat x10
  b3 := vec x11
  W4 := mat x12
  b4 := vec x13
  W5 := mat x14
  b5 := vec x15
  w6 := leftCol x16
  b6 := x17 (ix1 0)

/-- The gate of row `n`. -/
theorem gate (x1 : (⟨S50000, .i32⟩ : BufTy).Contents (Elt Ideal)) (n : Fin 50000) :
    val_main_v72 (F := Ideal) x0 x2 x3 x4 x5 x6 x7 x8 x9 x10 x11 x12 x13 x14 x15 x16 x17 (ix2 n 0)
      = Reference.gate (inputs x0 x2 x3 x4 x5 x6 x7 x8 x9 x10 x11 x12 x13 x14 x15 x16 x17 x1) n := by
  rw [gate5, layer5, layer4, layer3, normal2, layer2, normal1, layer1]
  rfl

end Cert.ReferenceIdeal.Front
-- ==== Proof.RefPool.lean ====
/-
  What the reference's pooling computes: the largest gate of each segment, the exponentials, the segments' sums and
  the weighted sums, in the formulas of `Proof.RefFormulas`.
-/
module

public import proofs.«01_k».proof.Proof.RefFront
public import Idealize.ShloMosaic.Lib.Routing.OpsPair

@[expose] public section

noncomputable section

namespace Cert.ReferenceIdeal.Pooling

open Cert.ReferenceIdeal Cert.ReferenceIdeal.Gen Cert.ReferenceIdeal.Read Cert.ReferenceIdeal.Front Idealize.ShloMosaic
open Cert.Pool
open scoped BigOperators

/-- One update per row, each at the table row its word names: where the update `(n, c)` lands. -/
theorem lands {C : ℕ} (d : ScatterDims ⟨2, ![2048, C]⟩ ⟨2, ![50000, 1]⟩ ⟨2, ![50000, C]⟩)
    (huw : d.updateWindowDims = [1]) (hiw : d.insertedWindowDims = [0]) (hsd : d.scatterDimsToOperandDims = [0])
    (hiv : d.indexVectorDim = 1) (idx : IVec ⟨2, ![50000, 1]⟩ 32) (n : Fin 50000) (c : Fin C) (s : Fin 2048) (c' : Fin C) :
    d.resultIdx? (ix2 n c) idx = some (ix2 s c') ↔ (idx (ix2 n 0)).toInt = (s.val : ℤ) ∧ c = c' := by
  rw [Routing.resultIdx?_eq_some]
  obtain ⟨uw, iw, sd, iv, wf⟩ := d
  dsimp only at huw hiw hsd hiv
  subst huw hiw hsd hiv
  have h0 : ScatterDims.start ⟨[1], [0], [0], 1, wf⟩ (ix2 n c) idx 0 = (idx (ix2 n 0)).toInt := by
    unfold ScatterDims.start
    rw [dif_pos (show (0 : Fin 2) ∈ [(0 : Fin 2)] by decide)]
    congr 2
    exact eq_ix2 _
  have h1 : ScatterDims.start ⟨[1], [0], [0], 1, wf⟩ (ix2 n c) idx 1 = 0 := by
    unfold ScatterDims.start
    rw [dif_neg (show (1 : Fin 2) ∉ [(0 : Fin 2)] by decide)]
  have w0 : ScatterDims.window ⟨[1], [0], [0], 1, wf⟩ (ix2 n c) 0 = 0 := by
    unfold ScatterDims.window
    rw [dif_neg (by simp [ScatterDims.sKept, Shape.kept])]
  have w1 : ScatterDims.window ⟨[1], [0], [0], 1, wf⟩ (ix2 n c) 1 = c.val := by
    unfold ScatterDims.window
    rw [dif_pos (by simp [ScatterDims.sKept, Shape.kept])]
    rfl
  constructor
  · intro h
    have e0 := h 0
    have e1 := h 1
    rw [h0, w0] at e0
    rw [h1, w1] at e1
    refine ⟨by simpa using e0, Fin.ext ?_⟩
    have e2 : ((c.val : ℕ) : ℤ) = (c'.val : ℤ) := by simpa using e1
    exact_mod_cast e2
  · rintro ⟨e, rfl⟩ a
    match a with
    | ⟨0, _⟩ => exact (congrArg₂ (fun p (q : ℕ) => p + (q : ℤ)) h0 w0).trans (by simpa using e)
    | ⟨1, _⟩ => exact (congrArg₂ (fun p (q : ℕ) => p + (q : ℤ)) h1 w1).trans (by simp)

/-- The rows of updates added into a table of zeros. -/
theorem scatter_sum {C : ℕ} (d : ScatterDims ⟨2, ![2048, C]⟩ ⟨2, ![50000, 1]⟩ ⟨2, ![50000, C]⟩)
    (huw : d.updateWindowDims = [1]) (hiw : d.insertedWindowDims = [0]) (hsd : d.scatterDimsToOperandDims = [0])
    (hiv : d.indexVectorDim = 1) (x : (⟨2, ![2048, C]⟩ : Shape).Idx → EReal) (hx : ∀ i, x i = 0)
    (idx : IVec ⟨2, ![50000, 1]⟩ 32) (upd : (⟨2, ![50000, C]⟩ : Shape).Idx → EReal) (s : Fin 2048) (c : Fin C) :
    Host.scatterAdd (F := Ideal) (φ := .f32) d x idx upd (ix2 s c)
      = Reference.segmentSum (fun n => idx (ix2 n 0)) (fun n => upd (ix2 n c)) s := by
  show Ideal.hostScatterAdd d x idx upd (ix2 s c) = _
  unfold Ideal.hostScatterAdd Reference.segmentSum
  rw [hx, zero_add, Finset.sum_filter, sum_idx2]
  refine Finset.sum_congr rfl fun n _ => ?_
  rw [Finset.sum_eq_single c]
  · exact if_congr ((lands d huw hiw hsd hiv idx n c s c).trans (and_iff_left rfl)) rfl rfl
  · exact fun c' _ h => if_neg fun e => h ((lands d huw hiw hsd hiv idx n c' s c).1 e).2
  · exact fun h => absurd (Finset.mem_univ c) h

/-- The table row that row `n`'s word reads. -/
theorem gather_row (d : GatherDims ⟨2, ![2048, 1]⟩ ⟨2, ![50000, 1]⟩ ⟨2, ![50000, 1]⟩)
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, 1])
    (x : (⟨2, ![2048, 1]⟩ : Shape).Idx → EReal) (idx : IVec ⟨2, ![50000, 1]⟩ 32) (n : Fin 50000) :
    Host.gather d x idx (ix2 n 0) = x (ix2 ⟨min (idx (ix2 n 0)).toInt.toNat 2047, by omega⟩ 0) := by
  obtain ⟨od, cs, ob, sb, sm, iv, ss, wf⟩ := d
  dsimp only at hod hcs hob hsb hsm hiv hss
  subst hod hcs hob hsb hsm hiv hss
  show x _ = x _
  congr 1
  refine (eq_ix2 _).trans ?_
  congr 1
  refine Fin.ext ?_
  show GatherDims.start _ _ _ 0 + GatherDims.batchCoord _ _ 0 + GatherDims.offCoord _ _ 0 = _
  rw [GatherDims.batchCoord_eq_zero _ _ _ (by simp), GatherDims.offCoord_eq_zero _ _ _ (by rw [GatherDims.mem_sKept]; simp)]
  unfold GatherDims.start
  rw [dif_pos (by simp)]
  show min _ (2048 - 1) = min _ 2047
  congr 3
  congr 1
  exact eq_ix2 _

variable (x0 : Arr S50000x512) (x1 : (⟨S50000, .i32⟩ : BufTy).Contents (Elt Ideal)) (x2 : Arr S512x1536)
  (x3 x4 x5 : Arr S1536) (x6 : Arr S1536x1024) (x7 x8 x9 : Arr S1024) (x10 : Arr S1024x128) (x11 : Arr S128)
  (x12 : Arr S128x128) (x13 : Arr S128) (x14 : Arr S128x128) (x15 : Arr S128) (x16 : Arr S128x1) (x17 : Arr S1)

/-- The largest gate of each segment. -/
theorem top (s : Fin 2048) :
    val_main_v81 (F := Ideal) x0 x1 x2 x3 x4 x5 x6 x7 x8 x9 x10 x11 x12 x13 x14 x15 x16 x17 (ix2 s 0)
      = Reference.segmentMax (fun n => x1 (ix1 n)) (fun n =>
          val_main_v72 (F := Ideal) x0 x2 x3 x4 x5 x6 x7 x8 x9 x10 x11 x12 x13 x14 x15 x16 x17 (ix2 n 0)) s := by
  unfold val_main_v81 val_main_v80 val_main_v79 val_main_call7_v1
  generalize val_main_v72 (F := Ideal) x0 x2 x3 x4 x5 x6 x7 x8 x9 x10 x11 x12 x13 x14 x15 x16 x17 = y
  pointwise [val_main_v78, val_main_v77, val_main_v76, val_main_v75, val_main_v74, val_main_v73, val_main_call7_v2,
    val_main_call7_v0, val_main_cst_13, val_main_cst_14, Reference.segmentMax]
  have hb : Ideal.ofBits FTy.f32 0xFF800000#32 = ⊥ := by simp [Ideal.ofBits, Ideal.ieee]
  have hk : (id (constant (F := Ideal) S_ FTy.f32 0xFF800000#32) ix0 : EReal) = ⊥ := hb
  rw [hb, hk]
  refine congrArg (fun f => Finset.fold max ⊥ f Finset.univ) (funext fun n => ?_)
  exact (WordCmp.select_decide _ _ _).trans (if_congr Iff.rfl rfl rfl)

/-- A word compared with zero and moved up, as a case split. -/
theorem wrap_word (b : BitVec 32) :
    Scalar.select (IntOp.cmpi .slt b 0#32) (IntOp.addi b 2048#32) b = Reference.wrapped b := by
  unfold Reference.wrapped IntOp.cmpi IntOp.addi
  by_cases h : b.toInt < 0
  · rw [if_pos h]
    simp [Scalar.select, BitVec.slt, h]
  · rw [if_neg h]
    simp [Scalar.select, BitVec.slt, h]

/-- The wrapped words. -/
theorem wrap (n : Fin 50000) : val_main_v87 (F := Ideal) x1 (ix2 n 0) = Reference.wrapped (x1 (ix1 n)) := by
  pointwise [val_main_v87, val_main_v86, val_main_v85, val_main_v84, val_main_v83, val_main_v82, val_main_c_15,
    val_main_c_16, Reference.wrapped]
  exact wrap_word _

/-- The wrapped words, computed a second time. -/
theorem wrap' (n : Fin 50000) : val_main_v102 (F := Ideal) x1 (ix2 n 0) = Reference.wrapped (x1 (ix1 n)) := by
  pointwise [val_main_v102, val_main_v101, val_main_v100, val_main_v99, val_main_v98, val_main_v97, val_main_c_20,
    val_main_c_21, Reference.wrapped]
  exact wrap_word _

/-- The exponential of each row's gate less its segment's largest. -/
theorem exponential (n : Fin 50000) :
    val_main_v90 (F := Ideal) x0 x1 x2 x3 x4 x5 x6 x7 x8 x9 x10 x11 x12 x13 x14 x15 x16 x17 (ix2 n 0)
      = Reference.shifted (fun n => x1 (ix1 n)) (fun n =>
          val_main_v72 (F := Ideal) x0 x2 x3 x4 x5 x6 x7 x8 x9 x10 x11 x12 x13 x14 x15 x16 x17 (ix2 n 0)) n := by
  have hg : val_main_v88 (F := Ideal) x0 x1 x2 x3 x4 x5 x6 x7 x8 x9 x10 x11 x12 x13 x14 x15 x16 x17 (ix2 n 0)
      = val_main_v81 (F := Ideal) x0 x1 x2 x3 x4 x5 x6 x7 x8 x9 x10 x11 x12 x13 x14 x15 x16 x17
          (ix2 (Reference.rowOf (x1 (ix1 n))) 0) := by
    unfold val_main_v88
    refine (gather_row _ rfl rfl rfl rfl rfl rfl rfl _ _ n).trans ?_
    unfold Reference.rowOf
    congr 3
    rw [wrap]
  unfold Reference.shifted
  rw [← top, ← hg]
  rfl

/-- Each segment's sum of the exponentials. -/
theorem sums (s : Fin 2048) :
    val_main_v93 (F := Ideal) x0 x1 x2 x3 x4 x5 x6 x7 x8 x9 x10 x11 x12 x13 x14 x15 x16 x17 (ix2 s 0)
      = Reference.segmentSum (fun n => x1 (ix1 n)) (fun n =>
          val_main_v90 (F := Ideal) x0 x1 x2 x3 x4 x5 x6 x7 x8 x9 x10 x11 x12 x13 x14 x15 x16 x17 (ix2 n 0)) s := by
  have hi : ∀ n : Fin 50000, val_main_v92 (F := Ideal) x1 (ix2 n 0) = x1 (ix1 n) := fun n => by
    pointwise [val_main_v92]
  unfold val_main_v93
  refine (scatter_sum _ rfl rfl rfl rfl _ (fun i => ?_) _ _ s 0).trans ?_
  · rw [eq_ix2 i]
    pointwise [val_main_v91, val_main_cst_17]
  · exact congrArg (fun f => Reference.segmentSum f _ s) (funext hi)

/-- Each segment's sum, an empty segment's replaced by one. -/
theorem denominators (s : Fin 2048) :
    val_main_v96 (F := Ideal) x0 x1 x2 x3 x4 x5 x6 x7 x8 x9 x10 x11 x12 x13 x14 x15 x16 x17 (ix2 s 0)
      = Reference.total (fun n => x1 (ix1 n)) (fun n =>
          val_main_v90 (F := Ideal) x0 x1 x2 x3 x4 x5 x6 x7 x8 x9 x10 x11 x12 x13 x14 x15 x16 x17 (ix2 n 0)) s := by
  unfold Reference.total
  rw [← sums]
  unfold val_main_v96 val_main_v95
  generalize val_main_v93 (F := Ideal) x0 x1 x2 x3 x4 x5 x6 x7 x8 x9 x10 x11 x12 x13 x14 x15 x16 x17 = y
  pointwise [val_main_v94, val_main_cst_18, val_main_call8_v1, val_main_call8_v0, val_main_cst_19]
  exact if_congr Iff.rfl Ideal.ofBits_one_f32 rfl

/-- Each row's share of its segment. -/
theorem shares (n : Fin 50000) :
    val_main_v104 (F := Ideal) x0 x1 x2 x3 x4 x5 x6 x7 x8 x9 x10 x11 x12 x13 x14 x15 x16 x17 (ix2 n 0)
      = Reference.share (fun n => x1 (ix1 n)) (fun n =>
          val_main_v90 (F := Ideal) x0 x1 x2 x3 x4 x5 x6 x7 x8 x9 x10 x11 x12 x13 x14 x15 x16 x17 (ix2 n 0)) n := by
  have hg : val_main_v103 (F := Ideal) x0 x1 x2 x3 x4 x5 x6 x7 x8 x9 x10 x11 x12 x13 x14 x15 x16 x17 (ix2 n 0)
      = val_main_v96 (F := Ideal) x0 x1 x2 x3 x4 x5 x6 x7 x8 x9 x10 x11 x12 x13 x14 x15 x16 x17
          (ix2 (Reference.rowOf (x1 (ix1 n))) 0) := by
    unfold val_main_v103
    refine (gather_row _ rfl rfl rfl rfl rfl rfl rfl _ _ n).trans ?_
    unfold Reference.rowOf
    congr 3
    rw [wrap']
  unfold Reference.share
  rw [← denominators, ← hg, val_main_v104_apply]
  beta_reduce
  generalize val_main_v90 (F := Ideal) x0 x1 x2 x3 x4 x5 x6 x7 x8 x9 x10 x11 x12 x13 x14 x15 x16 x17 (ix2 n 0) = u
  generalize val_main_v103 (F := Ideal) x0 x1 x2 x3 x4 x5 x6 x7 x8 x9 x10 x11 x12 x13 x14 x15 x16 x17 (ix2 n 0) = v
  rfl

/-- The reference's result. -/
theorem result : mat (val_main_v109 (F := Ideal) x0 x1 x2 x3 x4 x5 x6 x7 x8 x9 x10 x11 x12 x13 x14 x15 x16 x17)
    = Reference.result (inputs x0 x2 x3 x4 x5 x6 x7 x8 x9 x10 x11 x12 x13 x14 x15 x16 x17 x1) := by
  have hi : ∀ n : Fin 50000, val_main_v108 (F := Ideal) x1 (ix2 n 0) = x1 (ix1 n) := fun n => by
    pointwise [val_main_v108]
  funext s c
  show val_main_v109 (F := Ideal) x0 x1 x2 x3 x4 x5 x6 x7 x8 x9 x10 x11 x12 x13 x14 x15 x16 x17 (ix2 s c) = _
  unfold val_main_v109
  refine (scatter_sum _ rfl rfl rfl rfl _ (fun i => ?_) _ _ s c).trans ?_
  · rw [eq_ix2 i]
    pointwise [val_main_v107, val_main_cst_22]
  refine congrArg₂ (fun f g => Reference.segmentSum f g s) (funext hi) (funext fun n => ?_)
  have hm : val_main_v106 (F := Ideal) x0 x1 x2 x3 x4 x5 x6 x7 x8 x9 x10 x11 x12 x13 x14 x15 x16 x17 (ix2 n c)
      = x0 (ix2 n c) * val_main_v104 (F := Ideal) x0 x1 x2 x3 x4 x5 x6 x7 x8 x9 x10 x11 x12 x13 x14 x15 x16 x17
          (ix2 n 0) := by
    unfold val_main_v106 val_main_v105
    generalize val_main_v104 (F := Ideal) x0 x1 x2 x3 x4 x5 x6 x7 x8 x9 x10 x11 x12 x13 x14 x15 x16 x17 = y
    pointwise []
  have he := fun k => (exponential x0 x1 x2 x3 x4 x5 x6 x7 x8 x9 x10 x11 x12 x13 x14 x15 x16 x17 k).trans
    (congrArg (fun f => Reference.shifted (fun n => x1 (ix1 n)) f k)
      (funext fun n => gate x0 x2 x3 x4 x5 x6 x7 x8 x9 x10 x11 x12 x13 x14 x15 x16 x17 x1 n))
  rw [hm, shares, funext he]
  rfl

end Cert.ReferenceIdeal.Pooling
-- ==== Proof.Reals.lean ====
/-
  The computation at real inputs: sums, quotients by the number of rows, dense layers and the rectifier stay real, and
  the identity of the variance.
-/
module

public import proofs.«01_k».proof.Proof.Numbers

@[expose] public section

noncomputable section

namespace Cert.Pool

open Idealize.ShloMosaic
open scoped BigOperators

/-- A sum of reals, taken in the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

/-- A sum of products of reals, taken in the extended reals. -/
theorem coe_sum_mul {ι : Type} (s : Finset ι) (f g : ι → ℝ) :
    ∑ i ∈ s, (f i : EReal) * (g i : EReal) = ((∑ i ∈ s, f i * g i : ℝ) : EReal) := by
  rw [← coe_sum]
  exact Finset.sum_congr rfl fun i _ => (EReal.coe_mul _ _).symm

/-- A real over the number of rows. -/
theorem div_count (r : ℝ) : Ideal.div (r : EReal) count = ((r / 50000 : ℝ) : EReal) := by
  rw [count_eq, Ideal.div_coe (by norm_num), ← EReal.coe_mul, mul_one_div]

/-- A dense layer at reals. -/
theorem dense_coe {K N : ℕ} (a : Fin K → ℝ) (W : Fin K → Fin N → ℝ) (b : Fin N → ℝ) (j : Fin N) :
    dense (fun k => (a k : EReal)) (fun k j => (W k j : EReal)) (fun j => (b j : EReal)) j
      = ((∑ k, a k * W k j + b j : ℝ) : EReal) := by
  unfold dense
  rw [coe_sum_mul, EReal.coe_add]

/-- The rectifier at a real. -/
theorem leak_coe (y : ℝ) : ∃ r : ℝ, leak (y : EReal) = (r : EReal) := by
  unfold leak
  rw [slope_eq]
  split
  · exact ⟨y, rfl⟩
  · exact ⟨_, (EReal.coe_mul _ _).symm⟩

/-- The variance of `p` shifted by `b`, from the mean of its squares. -/
theorem variance_identity (p : Fin 50000 → ℝ) (b : ℝ) :
    (∑ n, (p n + b - (∑ m, (p m + b)) / 50000) * (p n + b - (∑ m, (p m + b)) / 50000)) / 50000
      = (∑ n, p n * p n) / 50000 - (∑ n, p n) / 50000 * ((∑ n, p n) / 50000) := by
  have hs : ∑ m : Fin 50000, (p m + b) = ∑ m, p m + 50000 * b := by
    rw [Finset.sum_add_distrib, Finset.sum_const, Finset.card_univ, Fintype.card_fin, nsmul_eq_mul]
    norm_num
  rw [hs]
  generalize hS : ∑ m, p m = S
  have hd : ∀ n : Fin 50000, (p n + b - (S + 50000 * b) / 50000) * (p n + b - (S + 50000 * b) / 50000)
      = p n * p n + (-(2 * (S / 50000))) * p n + S / 50000 * (S / 50000) := fun n => by ring
  rw [Finset.sum_congr rfl fun n _ => hd n, Finset.sum_add_distrib, Finset.sum_add_distrib, ← Finset.mul_sum, hS,
    Finset.sum_const, Finset.card_univ, Fintype.card_fin, nsmul_eq_mul]
  push_cast
  ring

/-- The mean of squares less the square of the mean is not negative. -/
theorem variance_nonneg (p : Fin 50000 → ℝ) :
    0 ≤ (∑ n, p n * p n) / 50000 - (∑ n, p n) / 50000 * ((∑ n, p n) / 50000) := by
  rw [← variance_identity p 0]
  exact div_nonneg (Finset.sum_nonneg fun n _ => mul_self_nonneg _) (by norm_num)

end Cert.Pool
-- ==== Proof.Normalise.lean ====
/-
  Both batch normalisations at real inputs: the reference's (centre, divide by the root of the variance, scale, shift)
  and the kernel's (a factor and a shift made from sums and sums of products) give the same numbers.
-/
module

public import proofs.«01_k».proof.Proof.Reals

@[expose] public section

noncomputable section

namespace Cert.Pool

open Idealize.ShloMosaic
open scoped BigOperators

/-- The mean of a column. -/
def average (p : Fin 50000 → ℝ) : ℝ := (∑ n, p n) / 50000

/-- The variance of a column, from its mean square. -/
def spread (p : Fin 50000 → ℝ) : ℝ := (∑ n, p n * p n) / 50000 - average p * average p

/-- The square root of the variance and the small number. -/
def deviation (p : Fin 50000 → ℝ) : ℝ := Real.sqrt (spread p + 10995116 / 1099511627776)

theorem spread_pos (p : Fin 50000 → ℝ) : 0 < spread p + 10995116 / 1099511627776 :=
  add_pos_of_nonneg_of_pos (variance_nonneg p) (by norm_num)

theorem deviation_pos (p : Fin 50000 → ℝ) : 0 < deviation p := Real.sqrt_pos.2 (spread_pos p)

/-- The reciprocal root of a column's variance. -/
theorem rsqrt_spread (p : Fin 50000 → ℝ) :
    Ideal.rsqrt ((spread p : EReal) + small) = (((deviation p)⁻¹ : ℝ) : EReal) := by
  rw [small_eq, ← EReal.coe_add, Ideal.rsqrt_coe, if_neg (not_lt.2 (spread_pos p).le), if_neg (spread_pos p).ne']
  rfl

/-- The root of a column's variance. -/
theorem sqrt_spread (p : Fin 50000 → ℝ) : Ideal.sqrt ((spread p : EReal) + small) = (deviation p : EReal) := by
  rw [small_eq, ← EReal.coe_add, Ideal.sqrt_coe, if_neg (not_lt.2 (spread_pos p).le)]
  rfl

/-- The mean of a shifted column. -/
theorem average_shift (p : Fin 50000 → ℝ) (b : ℝ) : (∑ n, (p n + b)) / 50000 = average p + b := by
  unfold average
  rw [Finset.sum_add_distrib, Finset.sum_const, Finset.card_univ, Fintype.card_fin, nsmul_eq_mul]
  push_cast
  ring

variable {K : ℕ}

/-- The reference's normalisation of columns `p` shifted by `b`: the shift cancels. -/
theorem normal_coe (p : Fin 50000 → Fin K → ℝ) (b g : Fin K → ℝ) (be : Fin K → EReal) (n : Fin 50000) (j : Fin K) :
    Reference.normal (fun n j => ((p n j + b j : ℝ) : EReal)) (fun j => (g j : EReal)) be n j
      = (((p n j - average fun n => p n j) * (deviation fun n => p n j)⁻¹ * g j : ℝ) : EReal) + be j := by
  have hm : Reference.mean (fun n j => ((p n j + b j : ℝ) : EReal)) j
      = (((average fun n => p n j) + b j : ℝ) : EReal) := by
    unfold Reference.mean
    rw [coe_sum, div_count, average_shift]
  have hv : Reference.variance (fun n j => ((p n j + b j : ℝ) : EReal)) j = ((spread fun n => p n j : ℝ) : EReal) := by
    unfold Reference.variance
    rw [hm]
    have ht : ∀ n, ((p n j + b j : ℝ) : EReal) - (((average fun n => p n j) + b j : ℝ) : EReal)
        = ((p n j + b j - ((average fun n => p n j) + b j) : ℝ) : EReal) := fun n => (EReal.coe_sub _ _).symm
    rw [Finset.sum_congr rfl fun n _ => congrArg₂ (· * ·) (ht n) (ht n), coe_sum_mul, div_count]
    refine congrArg _ ?_
    rw [← average_shift]
    exact variance_identity _ _
  unfold Reference.normal
  rw [hm, hv, sqrt_spread, ← EReal.coe_sub, Ideal.div_coe (deviation_pos _).ne', ← EReal.coe_mul, ← EReal.coe_mul]
  refine congrArg (fun r : ℝ => (r : EReal) + be j) ?_
  rw [one_div]
  ring

/-- The kernel's second normalisation, from the sums and the sums of squares of real columns. -/
theorem scale2_coe (p : Fin 50000 → Fin K → ℝ) (g : Fin K → ℝ) (j : Fin K) :
    scale2 (fun j => ∑ n, (p n j : EReal)) (fun j => ∑ n, (p n j : EReal) * (p n j : EReal)) (fun j => (g j : EReal)) j
      = ((g j * (deviation fun n => p n j)⁻¹ : ℝ) : EReal) := by
  unfold scale2
  beta_reduce
  rw [coe_sum, coe_sum_mul, div_count, div_count, ← EReal.coe_mul, ← EReal.coe_sub]
  exact (congrArg _ (rsqrt_spread fun n => p n j)).trans (EReal.coe_mul _ _).symm

/-- The kernel's second normalisation is the reference's. -/
theorem normal2_eq (p : Fin 50000 → Fin K → ℝ) (g : Fin K → ℝ) (be : Fin K → EReal) (n : Fin 50000) (j : Fin K) :
    (p n j : EReal) * scale2 (fun j => ∑ n, (p n j : EReal)) (fun j => ∑ n, (p n j : EReal) * (p n j : EReal))
        (fun j => (g j : EReal)) j
      + shift2 (fun j => ∑ n, (p n j : EReal)) (fun j => ∑ n, (p n j : EReal) * (p n j : EReal))
        (fun j => (g j : EReal)) be j
      = Reference.normal (fun n j => (p n j : EReal)) (fun j => (g j : EReal)) be n j := by
  have h := normal_coe p (fun _ => 0) g be n j
  simp only [add_zero] at h
  rw [h]
  unfold shift2
  rw [scale2_coe]
  beta_reduce
  rw [coe_sum, div_count, ← EReal.coe_mul, ← EReal.coe_mul, sub_eq_add_neg, add_comm (be j), ← add_assoc,
    ← EReal.coe_neg, ← EReal.coe_add]
  refine congrArg (fun r : ℝ => (r : EReal) + be j) ?_
  unfold average
  ring

variable {D : ℕ} (x : Fin 50000 → Fin D → ℝ) (W : Fin D → Fin K → ℝ)

/-- The first layer without its bias. -/
def linear (n : Fin 50000) (j : Fin K) : ℝ := ∑ i, x n i * W i j

/-- The mean of the first layer, from the column sums of its input. -/
theorem mean1_coe (j : Fin K) :
    mean1 (colSum fun n i => (x n i : EReal)) (fun i j => (W i j : EReal)) j
      = ((average fun n => linear x W n j : ℝ) : EReal) := by
  unfold mean1 colSum
  have ht : ∀ i, Ideal.div (∑ n, (x n i : EReal)) count = (((∑ n, x n i) / 50000 : ℝ) : EReal) := fun i => by
    rw [coe_sum, div_count]
  rw [Finset.sum_congr rfl fun i _ => congrArg (· * (W i j : EReal)) (ht i), coe_sum_mul]
  refine congrArg _ ?_
  unfold average linear
  rw [Finset.sum_comm, Finset.sum_div]
  refine Finset.sum_congr rfl fun i _ => ?_
  rw [← Finset.sum_mul]
  ring

/-- The sum of squares of the first layer, from the column products of its input. -/
theorem square_sum (j : Fin K) :
    ∑ i, W i j * ∑ k, (∑ n, x n i * x n k) * W k j = ∑ n, linear x W n j * linear x W n j := by
  unfold linear
  rw [Finset.sum_congr rfl fun n _ => Finset.sum_mul_sum Finset.univ Finset.univ (fun i => x n i * W i j)
    (fun k => x n k * W k j), Finset.sum_comm]
  refine Finset.sum_congr rfl fun i _ => ?_
  rw [Finset.sum_comm, Finset.mul_sum]
  refine Finset.sum_congr rfl fun k _ => ?_
  rw [Finset.sum_mul, Finset.mul_sum]
  exact Finset.sum_congr rfl fun n _ => by ring

/-- The factor of the first normalisation. -/
theorem scale1_coe (g : Fin K → ℝ) (j : Fin K) :
    scale1 (gram fun n i => (x n i : EReal)) (colSum fun n i => (x n i : EReal)) (fun i j => (W i j : EReal))
        (fun j => (g j : EReal)) j
      = ((g j * (deviation fun n => linear x W n j)⁻¹ : ℝ) : EReal) := by
  unfold scale1
  have hg : ∀ i k, gram (fun n i => (x n i : EReal)) i k = ((∑ n, x n i * x n k : ℝ) : EReal) := fun i k => by
    unfold gram
    rw [coe_sum_mul]
  have hq : ∀ i, ∑ k, gram (fun n i => (x n i : EReal)) i k * (W k j : EReal)
      = ((∑ k, (∑ n, x n i * x n k) * W k j : ℝ) : EReal) := fun i => by
    rw [Finset.sum_congr rfl fun k _ => congrArg (· * (W k j : EReal)) (hg i k), coe_sum_mul]
  rw [Finset.sum_congr rfl fun i _ => congrArg ((W i j : EReal) * ·) (hq i), coe_sum_mul, mean1_coe, div_count,
    square_sum, ← EReal.coe_mul, ← EReal.coe_sub]
  exact (congrArg _ (rsqrt_spread fun n => linear x W n j)).trans (EReal.coe_mul _ _).symm

/-- The kernel's first layer, with the normalisation in its weights and bias, is the reference's normalised layer, whatever
the layer's own bias `b` is; and it is real. -/
theorem normal1_eq (b g be : Fin K → ℝ) (n : Fin 50000) (j : Fin K) :
    dense (fun i => (x n i : EReal))
        (weight1 (gram fun n i => (x n i : EReal)) (colSum fun n i => (x n i : EReal)) (fun i j => (W i j : EReal))
          (fun j => (g j : EReal)))
        (bias1 (gram fun n i => (x n i : EReal)) (colSum fun n i => (x n i : EReal)) (fun i j => (W i j : EReal))
          (fun j => (g j : EReal)) (fun j => (be j : EReal))) j
      = Reference.normal (fun n => dense (fun i => (x n i : EReal)) (fun i j => (W i j : EReal)) (fun j => (b j : EReal)))
          (fun j => (g j : EReal)) (fun j => (be j : EReal)) n j
    ∧ ∃ r : ℝ, Reference.normal (fun n => dense (fun i => (x n i : EReal)) (fun i j => (W i j : EReal))
          (fun j => (b j : EReal))) (fun j => (g j : EReal)) (fun j => (be j : EReal)) n j = (r : EReal) := by
  have hd : (fun n => dense (fun i => (x n i : EReal)) (fun i j => (W i j : EReal)) (fun j => (b j : EReal)))
      = fun n j => ((linear x W n j + b j : ℝ) : EReal) := funext fun n => funext fun j => dense_coe _ _ _ _
  rw [hd, normal_coe, ← EReal.coe_add]
  refine ⟨?_, _, rfl⟩
  unfold dense weight1 bias1
  rw [scale1_coe, mean1_coe]
  have hw : ∀ i, (W i j : EReal) * ((g j * (deviation fun n => linear x W n j)⁻¹ : ℝ) : EReal)
      = ((W i j * (g j * (deviation fun n => linear x W n j)⁻¹) : ℝ) : EReal) := fun i => (EReal.coe_mul _ _).symm
  rw [Finset.sum_congr rfl fun i _ => congrArg ((x n i : EReal) * ·) (hw i), coe_sum_mul, ← EReal.coe_mul,
    ← EReal.coe_sub, ← EReal.coe_add]
  refine congrArg _ ?_
  have hl : ∑ i, x n i * (W i j * (g j * (deviation fun n => linear x W n j)⁻¹))
      = linear x W n j * (g j * (deviation fun n => linear x W n j)⁻¹) := by
    rw [linear, Finset.sum_mul]
    exact Finset.sum_congr rfl fun i _ => by ring
  rw [hl]
  ring

end Cert.Pool
-- ==== Proof.Softmax.lean ====
/-
  The pooling identity: a segment's weighted sum over its weight is the sum of the segment's softmax shares times the
  values, whatever real number the exponents are lowered by.
-/
module

public import proofs.«01_k».proof.Proof.Reals

@[expose] public section

noncomputable section

namespace Cert.Pool

open Idealize.ShloMosaic
open scoped BigOperators

/-- The kernel's membership test, on numbers, is equality of the words' integers. -/
theorem member_iff (b : BitVec 32) (s : Fin 2048) :
    (((b.toInt : ℝ) : EReal) = ((s.val : ℝ) : EReal)) ↔ b.toInt = (s.val : ℤ) := by
  rw [EReal.coe_eq_coe_iff]
  exact_mod_cast Iff.rfl

/-- The integer of the word of a segment's number. -/
theorem toInt_segment (s : Fin 2048) : (BitVec.ofNat 32 s.val).toInt = (s.val : ℤ) := by
  have hs := s.isLt
  rw [BitVec.toInt_eq_toNat_cond, BitVec.toNat_ofNat]
  have : s.val % 2 ^ 32 = s.val := Nat.mod_eq_of_lt (by omega)
  rw [this, if_pos (by omega)]

/-- A word whose integer is a segment's number is that number's word. -/
theorem word_iff (b : BitVec 32) (s : Fin 2048) : b = BitVec.ofNat 32 s.val ↔ b.toInt = (s.val : ℤ) := by
  rw [← toInt_segment s]
  exact BitVec.toInt_inj.symm

/-- A row of segment `s` reads the table at `s`. -/
theorem rowOf_eq (b : BitVec 32) (s : Fin 2048) (h : b.toInt = (s.val : ℤ)) : Reference.rowOf b = s := by
  have hs := s.isLt
  have hw : Reference.wrapped b = b := if_neg (by omega)
  refine Fin.ext ?_
  show min (Reference.wrapped b).toInt.toNat 2047 = s.val
  rw [hw, h]
  omega

variable (seg : Fin 50000 → BitVec 32)

/-- The largest of real gates over a segment that has a row is real. -/
theorem segmentMax_real (r : Fin 50000 → ℝ) (s : Fin 2048) (n : Fin 50000) (h : (seg n).toInt = (s.val : ℤ)) :
    ∃ M : ℝ, Reference.segmentMax seg (fun n => (r n : EReal)) s = (M : EReal) := by
  have ht : Reference.segmentMax seg (fun n => (r n : EReal)) s < ⊤ := by
    refine (Finset.fold_max_lt _).2 ⟨bot_lt_top, fun k _ => ?_⟩
    split
    · exact EReal.coe_lt_top _
    · exact bot_lt_top
  have hb : ⊥ < Reference.segmentMax seg (fun n => (r n : EReal)) s := by
    refine (Finset.lt_fold_max _).2 (Or.inr ⟨n, Finset.mem_univ n, ?_⟩)
    rw [if_pos ((word_iff _ _).2 h)]
    exact EReal.bot_lt_coe _
  exact ⟨_, (EReal.coe_toReal ht.ne hb.ne').symm⟩

/-- A segment's sum of reals. -/
theorem segmentSum_coe (f : Fin 50000 → ℝ) (s : Fin 2048) :
    Reference.segmentSum seg (fun n => (f n : EReal)) s
      = ((∑ n, if (seg n).toInt = (s.val : ℤ) then f n else 0 : ℝ) : EReal) := by
  unfold Reference.segmentSum
  rw [← coe_sum]
  refine Finset.sum_congr rfl fun n _ => ?_
  split <;> rfl

/-- A segment's sum depends only on the segment's rows. -/
theorem segmentSum_congr (f g : Fin 50000 → EReal) (s : Fin 2048)
    (h : ∀ n, (seg n).toInt = (s.val : ℤ) → f n = g n) : Reference.segmentSum seg f s = Reference.segmentSum seg g s :=
  Finset.sum_congr rfl fun n _ => by
    split
    · exact h n ‹_›
    · rfl

/-- The kernel's membership sums are the segment's sums. -/
theorem one_sum (f : Fin 50000 → EReal) (s : Fin 2048) :
    ∑ n, one ((((seg n).toInt : ℝ) : EReal) = ((s.val : ℝ) : EReal)) * f n = Reference.segmentSum seg f s := by
  refine Finset.sum_congr rfl fun n _ => ?_
  unfold one
  by_cases h : (seg n).toInt = (s.val : ℤ)
  · rw [if_pos ((member_iff _ _).2 h), if_pos h, one_mul]
  · rw [if_neg fun e => h ((member_iff _ _).1 e), if_neg h, zero_mul]

/-- A segment's pooled sum over its pooled weight is the sum of its rows' softmax shares times their values. -/
theorem pooling (X r : Fin 50000 → ℝ) (s : Fin 2048) :
    ratio (Reference.segmentSum seg (fun n => (X n : EReal) * ((Real.exp (r n) : ℝ) : EReal)) s)
        (Reference.segmentSum seg (fun n => ((Real.exp (r n) : ℝ) : EReal)) s)
      = Reference.segmentSum seg
          (fun n => (X n : EReal) * Reference.share seg (Reference.shifted seg fun n => (r n : EReal)) n) s := by
  by_cases hn : ∃ n, (seg n).toInt = (s.val : ℤ)
  · obtain ⟨n₀, h₀⟩ := hn
    obtain ⟨M, hM⟩ := segmentMax_real seg r s n₀ h₀
    -- the sum of the weights, and that it is positive
    obtain ⟨D, hD⟩ : ∃ D : ℝ, D = ∑ n, if (seg n).toInt = (s.val : ℤ) then Real.exp (r n) else 0 := ⟨_, rfl⟩
    have hpos : 0 < D := by
      rw [hD]
      refine Finset.sum_pos' (fun n _ => ?_) ⟨n₀, Finset.mem_univ _, ?_⟩
      · split
        · exact (Real.exp_pos _).le
        · exact le_rfl
      · rw [if_pos h₀]
        exact Real.exp_pos _
    have hden : Reference.segmentSum seg (fun n => ((Real.exp (r n) : ℝ) : EReal)) s = (D : EReal) := by
      rw [segmentSum_coe, hD]
    have hshift : ∀ n, (seg n).toInt = (s.val : ℤ) →
        Reference.shifted seg (fun n => (r n : EReal)) n = ((Real.exp (r n - M) : ℝ) : EReal) := fun n h => by
      unfold Reference.shifted
      rw [rowOf_eq _ s h, hM, ← EReal.coe_sub, Ideal.exp_coe]
    have htot : Reference.segmentSum seg (Reference.shifted seg fun n => (r n : EReal)) s
        = ((Real.exp (-M) * D : ℝ) : EReal) := by
      rw [segmentSum_congr seg _ _ s hshift, segmentSum_coe, hD, Finset.mul_sum]
      refine congrArg _ (Finset.sum_congr rfl fun n _ => ?_)
      rw [mul_ite, mul_zero, ← Real.exp_add, neg_add_eq_sub]
    have hne : Real.exp (-M) * D ≠ 0 := (mul_pos (Real.exp_pos _) hpos).ne'
    have hshare : ∀ n, (seg n).toInt = (s.val : ℤ) →
        (X n : EReal) * Reference.share seg (Reference.shifted seg fun n => (r n : EReal)) n
          = ((X n * Real.exp (r n) * (1 / D) : ℝ) : EReal) := fun n h => by
      unfold Reference.share Reference.total
      rw [rowOf_eq _ s h, htot, if_neg (by exact_mod_cast hne), hshift n h, Ideal.div_coe hne, ← EReal.coe_mul,
        ← EReal.coe_mul, Real.exp_sub, Real.exp_neg]
      refine congrArg _ ?_
      have := (Real.exp_pos M).ne'
      field_simp
    rw [hden, segmentSum_congr seg _ _ s hshare, segmentSum_coe]
    have hnum : Reference.segmentSum seg (fun n => (X n : EReal) * ((Real.exp (r n) : ℝ) : EReal)) s
        = ((∑ n, if (seg n).toInt = (s.val : ℤ) then X n * Real.exp (r n) else 0 : ℝ) : EReal) := by
      rw [← segmentSum_coe]
      exact segmentSum_congr seg _ _ s fun n _ => (EReal.coe_mul _ _).symm
    unfold ratio
    rw [hnum, if_neg (by exact_mod_cast hpos.ne'), Ideal.div_coe hpos.ne', one_mul, ← EReal.coe_mul, Finset.sum_mul]
    refine congrArg _ (Finset.sum_congr rfl fun n _ => ?_)
    rw [ite_mul, zero_mul]
  · have h0 : ∀ f : Fin 50000 → EReal, Reference.segmentSum seg f s = 0 := fun f =>
      Finset.sum_eq_zero fun n _ => if_neg fun h => hn ⟨n, h⟩
    rw [h0, h0, h0]
    exact zero_mul _

end Cert.Pool
-- ==== Proof.Equation.lean ====
/-
  The two programs compute one function: at finite rows, weights and scales the kernel's formulas and the reference's
  agree entry by entry.
-/
module

public import proofs.«01_k».proof.Proof.Normalise
public import proofs.«01_k».proof.Proof.Softmax

@[expose] public section

noncomputable section

namespace Cert.Pool

open Idealize.ShloMosaic
open scoped BigOperators

/-- The two programs' gate networks agree on the same activations. -/
theorem logit_eq {N M : ℕ} (a : Fin N → EReal) (W3 : Fin N → Fin M → EReal) (b3 : Fin M → EReal)
    (W4 : Fin M → Fin M → EReal) (b4 : Fin M → EReal) (W5 : Fin M → Fin M → EReal) (b5 w6 : Fin M → EReal) (b6 : EReal) :
    Reference.logit a W3 b3 W4 b4 W5 b5 w6 b6 = logit a W3 b3 W4 b4 W5 b5 w6 b6 := by
  unfold Reference.logit logit
  simp only [leak_eq]

/-- The logistic of anything is real. -/
theorem logistic_real (x : EReal) : ∃ r : ℝ, Ideal.logistic x = (r : EReal) := by
  induction x with
  | bot => exact ⟨0, Ideal.logistic_bot⟩
  | coe r => exact ⟨_, Ideal.logistic_coe r⟩
  | top => exact ⟨1, Ideal.logistic_top⟩

/-- What the equality of the two programs asks of the arrays: the rows, the first two layers and their scales are finite,
and so is the first normalisation's shift. -/
structure Inputs.Finite (a : Inputs) : Prop where
  x : ∀ n i, ∃ r : ℝ, a.x n i = (r : EReal)
  W1 : ∀ i j, ∃ r : ℝ, a.W1 i j = (r : EReal)
  b1 : ∀ j, ∃ r : ℝ, a.b1 j = (r : EReal)
  g1 : ∀ j, ∃ r : ℝ, a.g1 j = (r : EReal)
  be1 : ∀ j, ∃ r : ℝ, a.be1 j = (r : EReal)
  W2 : ∀ i j, ∃ r : ℝ, a.W2 i j = (r : EReal)
  b2 : ∀ j, ∃ r : ℝ, a.b2 j = (r : EReal)
  g2 : ∀ j, ∃ r : ℝ, a.g2 j = (r : EReal)

/-- A table whose entries are real is a table of reals. -/
theorem reals_of {ι κ : Type} (f : ι → κ → EReal) (h : ∀ i k, ∃ r : ℝ, f i k = (r : EReal)) :
    ∃ p : ι → κ → ℝ, f = fun i k => (p i k : EReal) := by
  choose p hp using h
  exact ⟨p, funext fun i => funext fun k => hp i k⟩

/-- A vector whose entries are real is a vector of reals. -/
theorem real_vec {ι : Type} (f : ι → EReal) (h : ∀ i, ∃ r : ℝ, f i = (r : EReal)) :
    ∃ p : ι → ℝ, f = fun i => (p i : EReal) := by
  choose p hp using h
  exact ⟨p, funext hp⟩

variable (a : Inputs) (h : a.Finite)
include h

/-- The second layers agree and are real. -/
theorem layer2_eq : Kernel.layer2 a = Reference.layer2 a ∧
    ∃ p : Fin 50000 → Fin 1024 → ℝ, Reference.layer2 a = fun n j => (p n j : EReal) := by
  obtain ⟨x, hx⟩ := reals_of _ h.x
  obtain ⟨W, hW⟩ := reals_of _ h.W1
  obtain ⟨b, hb⟩ := real_vec _ h.b1
  obtain ⟨g, hg⟩ := real_vec _ h.g1
  obtain ⟨be, hbe⟩ := real_vec _ h.be1
  obtain ⟨V, hV⟩ := reals_of _ h.W2
  obtain ⟨c, hc⟩ := real_vec _ h.b2
  have e := normal1_eq x W b g be
  constructor
  · funext n
    unfold Kernel.layer2 Reference.layer2 Reference.layer1
    refine congrArg (fun f => dense f a.W2 a.b2) (funext fun k => ?_)
    rw [leak_eq, hx, hW, hb, hg, hbe]
    exact congrArg leak (e n k).1
  · refine reals_of _ fun n j => ?_
    have hr : ∀ k, ∃ r : ℝ, Reference.leak (Reference.normal (Reference.layer1 a) a.g1 a.be1 n k) = (r : EReal) := fun k => by
      obtain ⟨r, hr⟩ := (e n k).2
      unfold Reference.layer1
      rw [leak_eq, hx, hW, hb, hg, hbe, hr]
      exact leak_coe r
    obtain ⟨q, hq⟩ := real_vec _ hr
    refine ⟨∑ k, q k * V k j + c j, ?_⟩
    unfold Reference.layer2
    rw [hq, hV, hc]
    exact dense_coe q V c j

/-- The normalised second layers agree. -/
theorem act_eq : Kernel.act a = Reference.act a := by
  obtain ⟨hl, p, hp⟩ := layer2_eq a h
  obtain ⟨g, hg⟩ := real_vec _ h.g2
  funext n k
  unfold Kernel.act Kernel.sums Kernel.squares Reference.act
  rw [hl, hp, hg]
  exact normal2_eq p g a.be2 n k

/-- The kernel's weight is the exponential of the reference's gate. -/
theorem weight_eq (n : Fin 50000) : Kernel.weight a n = Ideal.exp (Reference.gate a n) := by
  unfold Kernel.weight Reference.gate
  rw [act_eq a h, logit_eq]
  rfl

/-- The two programs' results agree. -/
theorem result_eq : Kernel.result a = Reference.result a := by
  obtain ⟨x, hx⟩ := reals_of _ h.x
  obtain ⟨r, hr⟩ := real_vec (Reference.gate a) fun n => logistic_real _
  funext s d
  unfold Kernel.result Reference.result
  rw [one_sum, one_sum, funext (weight_eq a h), hr, hx]
  simp only [Ideal.exp_coe]
  exact pooling a.seg (fun n => x n d) r s

end Cert.Pool
-- ==== Proof.Finite.lean ====
/-
  What the precondition says: the arrays it names hold real numbers.
-/
module

public import proofs.«01_k».proof.Pre_finite_inputs
public import proofs.«01_k».proof.Proof.Equation
public import Idealize.ShloMosaic.Lib.ReduceAll
public import Idealize.ShloMosaic.Lib.WordArith

@[expose] public section

noncomputable section

namespace Cert.Pre_finite_inputs

open Idealize.ShloMosaic Cert.Pool

/-- The shapes the precondition's operations relate are as it states. -/
instance facts : Facts where
  bcast_S_S50000x512 := by decide
  reducesTo_S50000x512_S_d0_1 := by decide
  h_S_ := by decide
  bcast_S_S512x1536 := by decide
  reducesTo_S512x1536_S_d0_1 := by decide
  bcast_S_S1536 := by decide
  reducesTo_S1536_S_d0 := by decide
  bcast_S_S1536x1024 := by decide
  reducesTo_S1536x1024_S_d0_1 := by decide
  bcast_S_S1024 := by decide
  reducesTo_S1024_S_d0 := by decide

instance : Subsingleton S_.Idx := ⟨fun a b => funext fun k => k.elim0⟩

/-- A number whose absolute value is below the infinite is real. -/
theorem real_of_abs (v : EReal) (h : FloatOps.cmpf (F := Ideal) (φ := .f32) .olt (FloatOps.absf (F := Ideal) (φ := .f32) v)
    (Ideal.ofBits .f32 0x7F800000#32) = 1#1) : ∃ r : ℝ, v = (r : EReal) := by
  have ht : Ideal.ofBits .f32 0x7F800000#32 = ⊤ := by simp [Ideal.ofBits, Ideal.ieee]
  rw [ht] at h
  have h' : max v (-v) < ⊤ := of_decide_eq_true ((WordArith.ofBool_eq_one_iff _).1 h)
  obtain ⟨h1, h2⟩ := max_lt_iff.1 h'
  have h3 : v ≠ ⊥ := by
    rintro rfl
    exact absurd h2 (by simp)
  exact ⟨_, (EReal.coe_toReal h1.ne h3).symm⟩

/-- An array whose every absolute value is below the infinite holds reals. -/
theorem real_of_all {s : Shape} {axes : List (Fin s.rank)} (x : FVec Ideal s .f32) (dims : Fin 0 → Fin s.rank)
    (hb : S_.BroadcastsInDim s dims) (hr : s.ReducesTo axes S_) (hu : 0 < S_.numel)
    (h : Host.reduce IntOp.andi (cmpf .olt (Host.absf x) (broadcastInDim s dims hb (constant S_ .f32 0x7F800000#32)))
      (constantI S_ 1 1#1) hr hu (fun k => k.elim0) = 1#1) (i : s.Idx) : ∃ r : ℝ, x i = (r : EReal) :=
  real_of_abs _ (Host.reduce_andi_all _ _ hr hu _ h i)

variable (x0 : FVec Ideal S50000x512 .f32) (x1 : IVec S50000 32) (x2 : FVec Ideal S512x1536 .f32)
  (x3 x4 x5 : FVec Ideal S1536 .f32) (x6 : FVec Ideal S1536x1024 .f32) (x7 x8 x9 : FVec Ideal S1024 .f32)
  (x10 : FVec Ideal S1024x128 .f32) (x11 : FVec Ideal S128 .f32) (x12 : FVec Ideal S128x128 .f32)
  (x13 : FVec Ideal S128 .f32) (x14 : FVec Ideal S128x128 .f32) (x15 : FVec Ideal S128 .f32)
  (x16 : FVec Ideal S128x1 .f32) (x17 : FVec Ideal S1 .f32)

/-- Where the precondition holds, the eight arrays it names hold reals. -/
theorem reals (h : fn (F := Ideal) x0 x1 x2 x3 x4 x5 x6 x7 x8 x9 x10 x11 x12 x13 x14 x15 x16 x17 = fun _ => 1#1) :
    (∀ i, ∃ r : ℝ, x0 i = (r : EReal)) ∧ (∀ i, ∃ r : ℝ, x2 i = (r : EReal)) ∧ (∀ i, ∃ r : ℝ, x3 i = (r : EReal))
    ∧ (∀ i, ∃ r : ℝ, x4 i = (r : EReal)) ∧ (∀ i, ∃ r : ℝ, x5 i = (r : EReal)) ∧ (∀ i, ∃ r : ℝ, x6 i = (r : EReal))
    ∧ (∀ i, ∃ r : ℝ, x7 i = (r : EReal)) ∧ (∀ i, ∃ r : ℝ, x8 i = (r : EReal)) := by
  have h0 := congrFun h fun k => k.elim0
  dsimp only [fn, fn_part1, fn_part2] at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨real_of_all x0 _ _ _ _ e0, real_of_all x2 _ _ _ _ e2, real_of_all x3 _ _ _ _ e3, real_of_all x4 _ _ _ _ e4,
    real_of_all x5 _ _ _ _ e5, real_of_all x6 _ _ _ _ e6, real_of_all x7 _ _ _ _ e7, real_of_all x8 _ _ _ _ e8⟩

end Cert.Pre_finite_inputs
-- ==== Proof.Algebraic.lean ====
/-
  The algebraic claim: at finite inputs every run of the kernel and every run of the reference end with one result.
-/
module

public import proofs.«01_k».proof.Defs
public import proofs.«01_k».proof.Proof.Run
public import proofs.«01_k».proof.Proof.Contents
public import proofs.«01_k».proof.Proof.RefPool
public import proofs.«01_k».proof.Proof.Finite
public import proofs.«01_k».proof.Proof.Gen.ReferenceIdeal.Run
public import Idealize.ShloMosaic.Lib.Quiescent

@[expose] public section

noncomputable section

namespace Cert.Proof

open Idealize.ShloMosaic Idealize.SL.Sem Cert.Pool

/-- The reference runs, its arguments end unchanged, and it has no semaphore. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

open Cert.ReferenceIdeal Cert.ReferenceIdeal.Gen in
/-- Every run of the reference ends with its result the value of its arguments, and its arguments unchanged. -/
theorem reference_run (m' : (ℓ : Loc nD τ sig) → Buf (Elt Ideal) ℓ) (ρ : Dev nD → PrngReg) :
    θ_run (defs (F := Ideal)) (onTc (τ := τ) (main (F := Ideal))) ⟨m', fun _ => 0, ρ⟩ (fun r => ∀ c : Dev nD,
      r.2.mem ((c.tc : Thread nD τ).loc main_v109)
        = Read.val_main_v109 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14)) (m' ((c.tc : Thread nD τ).loc main_arg15)) (m' ((c.tc : Thread nD τ).loc main_arg16)) (m' ((c.tc : Thread nD τ).loc main_arg17))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)
      ∧ r.2.mem ((c.tc : Thread nD τ).loc main_arg15) = m' ((c.tc : Thread nD τ).loc main_arg15)
      ∧ r.2.mem ((c.tc : Thread nD τ).loc main_arg16) = m' ((c.tc : Thread nD τ).loc main_arg16)
      ∧ r.2.mem ((c.tc : Thread nD τ).loc main_arg17) = m' ((c.tc : Thread nD τ).loc main_arg17)) :=
  (θ_run defs _ _).mono (fun _ h c => ⟨(h c).1.trans (Read.val_main_v109_eq (StableHlo.launchContents m' c)), (h c).2⟩)
    (Value.run (F := Ideal) m' ρ)

open Cert.KernelIdeal Cert.KernelIdeal.Gen in
/-- Every run of the kernel ends with its result what its last stage leaves, and its arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v22) = W10 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨h c _ (mem_uc main_v22 (by decide)),
      (h c _ (mem_uc main_arg0 (by decide))).trans (W10_main_arg0 m ρ c),
      (h c _ (mem_uc main_arg1 (by decide))).trans (W10_main_arg1 m ρ c),
      (h c _ (mem_uc main_arg2 (by decide))).trans (W10_main_arg2 m ρ c),
      (h c _ (mem_uc main_arg3 (by decide))).trans (W10_main_arg3 m ρ c),
      (h c _ (mem_uc main_arg4 (by decide))).trans (W10_main_arg4 m ρ c),
      (h c _ (mem_uc main_arg5 (by decide))).trans (W10_main_arg5 m ρ c),
      (h c _ (mem_uc main_arg6 (by decide))).trans (W10_main_arg6 m ρ c),
      (h c _ (mem_uc main_arg7 (by decide))).trans (W10_main_arg7 m ρ c),
      (h c _ (mem_uc main_arg8 (by decide))).trans (W10_main_arg8 m ρ c),
      (h c _ (mem_uc main_arg9 (by decide))).trans (W10_main_arg9 m ρ c),
      (h c _ (mem_uc main_arg10 (by decide))).trans (W10_main_arg10 m ρ c),
      (h c _ (mem_uc main_arg11 (by decide))).trans (W10_main_arg11 m ρ c),
      (h c _ (mem_uc main_arg12 (by decide))).trans (W10_main_arg12 m ρ c),
      (h c _ (mem_uc main_arg13 (by decide))).trans (W10_main_arg13 m ρ c),
      (h c _ (mem_uc main_arg14 (by decide))).trans (W10_main_arg14 m ρ c),
      (h c _ (mem_uc main_arg15 (by decide))).trans (W10_main_arg15 m ρ c),
      (h c _ (mem_uc main_arg16 (by decide))).trans (W10_main_arg16 m ρ c),
      (h c _ (mem_uc main_arg17 (by decide))).trans (W10_main_arg17 m ρ c)⟩)
    (Run.final m ρ)

/-- Two matrices with the same entries are one. -/
theorem mat_ext {M N : ℕ} {u v : Vec Ideal ⟨2, ![M, N]⟩ .f32} (h : mat u = mat v) : u = v :=
  funext fun i => by
    rw [ValueIdx.eq_ix2 i]
    exact congrFun (congrFun h _) _

/-- Where the precondition holds, the arrays are as the equality of the two programs asks. -/
theorem finite (m : (ℓ : Loc Cert.KernelIdeal.nD Cert.KernelIdeal.τ Cert.KernelIdeal.sig) → Buf (Elt Ideal) ℓ)
    (hp : Pre_KernelIdeal_finite_inputs m) (c : Dev Cert.KernelIdeal.nD) : (Cert.KernelIdeal.Contents.given m c).Finite := by
  obtain ⟨e0, e2, e3, e4, e5, e6, e7, e8⟩ := Cert.Pre_finite_inputs.reals _ _ _ _ _ _ _ _ _ _ _ _ _ _ _ _ _ _ (hp c)
  exact ⟨fun n i => e0 _, fun i j => e2 _, fun j => e3 _, fun j => e4 _, fun j => e5 _, fun i j => e6 _, fun j => e7 _,
    fun j => e8 _⟩

/-- The algebraic claim. -/
theorem algebraic : Cert.algebraic_KernelIdeal_ReferenceIdeal_pre_finite_inputs := by
  intro m ρ m' ρ' hp ha
  refine ⟨fun c => Cert.KernelIdeal.Gen.W10 m ρ c (Proc.devRef .tc Cert.KernelIdeal.main_v22), kernel_run m ρ, ?_⟩
  refine (θ_run Cert.ReferenceIdeal.defs _ _).mono (fun r h c => ⟨(h c).1.trans ?_, (h c).2⟩) (reference_run m' ρ')
  obtain ⟨a0, a1, a2, a3, a4, a5, a6, a7, a8, a9, a10, a11, a12, a13, a14, a15, a16, a17⟩ := ha c
  rw [a0, a1, a2, a3, a4, a5, a6, a7, a8, a9, a10, a11, a12, a13, a14, a15, a16, a17]
  refine mat_ext ((Cert.ReferenceIdeal.Pooling.result _ _ _ _ _ _ _ _ _ _ _ _ _ _ _ _ _ _).trans ?_)
  refine Eq.trans ?_ (Cert.KernelIdeal.Contents.result m ρ c).symm
  exact (result_eq (Cert.KernelIdeal.Contents.given m c) (finite m hp c)).symm

end Cert.Proof
-- ==== Proof.lean ====
/-
  Everything claimed of the kernel, assembled: that it runs, leaves its arguments as they were and its semaphores at
  zero; the same of its reading on exact numbers and of the reference; and that at finite inputs the two end with one
  result.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Algebraic

@[expose] public section

noncomputable section

namespace Cert.Proof

open Idealize.ShloMosaic Idealize.SL.Sem

/-- The claims, all proved. -/
theorem claim : Cert.Claim :=
  ⟨Cert.Kernel.Gen.facts, Cert.KernelIdeal.Gen.facts, Cert.ReferenceIdeal.Gen.facts, Cert.Pre_finite_inputs.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    trivial,
    algebraic⟩

end Cert.Proof

end
